-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S64x4096 : Shape := ⟨2, ![64, 4096]⟩
abbrev S8x1x512 : Shape := ⟨3, ![8, 1, 512]⟩
abbrev S64x8 : Shape := ⟨2, ![64, 8]⟩
abbrev S1x4096 : Shape := ⟨2, ![1, 4096]⟩
abbrev S1x1 : Shape := ⟨2, ![1, 1]⟩
abbrev S_ : Shape := ⟨0, ![]⟩
abbrev S64x1 : Shape := ⟨2, ![64, 1]⟩
abbrev S64 : Shape := ⟨1, ![64]⟩
abbrev S64x64x4096 : Shape := ⟨3, ![64, 64, 4096]⟩
abbrev S4096x64x64 : Shape := ⟨3, ![4096, 64, 64]⟩
abbrev S512x4096 : Shape := ⟨2, ![512, 4096]⟩
abbrev S1x1x512 : Shape := ⟨3, ![1, 1, 512]⟩
abbrev S64x512 : Shape := ⟨2, ![64, 512]⟩
abbrev S512 : Shape := ⟨1, ![512]⟩
abbrev S1x512 : Shape := ⟨2, ![1, 512]⟩
abbrev S512x512 : Shape := ⟨2, ![512, 512]⟩
abbrev S1x64x1 : Shape := ⟨3, ![1, 64, 1]⟩
abbrev S1 : Shape := ⟨1, ![1]⟩
abbrev S1x1x1 : Shape := ⟨3, ![1, 1, 1]⟩

abbrev nBuf : Space → Nat
  | .hbm => 22
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S8x1x512, .i32⟩
  | .hbm, ⟨3, _⟩ => ⟨S8x1x512, .f32⟩
  | .hbm, ⟨4, _⟩ => ⟨S64x8, .f32⟩
  | .hbm, ⟨5, _⟩ => ⟨S1x4096, .i32⟩
  | .hbm, ⟨6, _⟩ => ⟨S1x4096, .f32⟩
  | .hbm, ⟨7, _⟩ => ⟨S4096x4096, .f32⟩
  | .hbm, ⟨8, _⟩ => ⟨S4096x4096, .i8⟩
  | .hbm, ⟨9, _⟩ => ⟨S1x1, .f32⟩
  | .hbm, ⟨10, _⟩ => ⟨S_, .f32⟩
  | .hbm, ⟨11, _⟩ => ⟨S64x1, .f32⟩
  | .hbm, ⟨12, _⟩ => ⟨S64, .f32⟩
  | .hbm, ⟨13, _⟩ => ⟨S64, .i32⟩
  | .hbm, ⟨14, _⟩ => ⟨S64x64x4096, .f32⟩
  | .hbm, ⟨15, _⟩ => ⟨S64x64x4096, .i8⟩
  | .hbm, ⟨16, _⟩ => ⟨S4096x64x64, .f32⟩
  | .hbm, ⟨17, _⟩ => ⟨S4096x64x64, .i8⟩
  | .hbm, ⟨18, _⟩ => ⟨S_, .i8⟩
  | .hbm, ⟨19, _⟩ => ⟨S4096x64x64, .i8⟩
  | .hbm, ⟨20, _⟩ => ⟨S4096x64x64, .i1⟩
  | .hbm, ⟨21, _⟩ => ⟨S4096x64x64, .i1⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S1x1x512, .i32⟩
  | .local _ .vmem, ⟨4, _⟩ => ⟨S1x1x512, .i32⟩
  | .local _ .vmem, ⟨5, _⟩ => ⟨S1x1x512, .f32⟩
  | .local _ .vmem, ⟨6, _⟩ => ⟨S1x1x512, .f32⟩
  | .local _ .vmem, ⟨7, _⟩ => ⟨S64x8, .f32⟩
  | .local _ .vmem, ⟨8, _⟩ => ⟨S64x1, .f32⟩
  | .local _ .vmem, ⟨9, _⟩ => ⟨S64x1, .f32⟩
  | .local _ .vmem, ⟨10, _⟩ => ⟨S1x4096, .i32⟩
  | .local _ .vmem, ⟨11, _⟩ => ⟨S1x4096, .f32⟩
  | .local _ .vmem, ⟨12, _⟩ => ⟨S512x4096, .f32⟩
  | .local _ .vmem, ⟨13, _⟩ => ⟨S512x4096, .f32⟩
  | .local _ .vmem, ⟨14, _⟩ => ⟨S512x4096, .i8⟩
  | .local _ .vmem, ⟨15, _⟩ => ⟨S512x4096, .i8⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_v1 : Ref sig .tc := ⟨.hbm, 5, rfl⟩
abbrev main_call0_v2 : Ref sig .tc := ⟨.hbm, 6, rfl⟩
abbrev main_call0_v3_0 : Ref sig .tc := ⟨.hbm, 7, rfl⟩
abbrev main_call0_v3_1 : Ref sig .tc := ⟨.hbm, 8, rfl⟩
abbrev main_call0_v4 : Ref sig .tc := ⟨.hbm, 9, rfl⟩
abbrev main_v0_0 : Ref sig .tc := ⟨.hbm, 10, rfl⟩
abbrev main_call0_v6 : Ref sig .tc := ⟨.hbm, 11, rfl⟩
abbrev main_call0_v7 : Ref sig .tc := ⟨.hbm, 12, rfl⟩
abbrev main_v0_3 : Ref sig .tc := ⟨.hbm, 13, rfl⟩
abbrev main_call0_v9 : Ref sig .tc := ⟨.hbm, 14, rfl⟩
abbrev main_call0_v10 : Ref sig .tc := ⟨.hbm, 15, rfl⟩
abbrev main_v0_1 : Ref sig .tc := ⟨.hbm, 16, rfl⟩
abbrev main_call0_v12 : Ref sig .tc := ⟨.hbm, 17, rfl⟩
abbrev main_call0_c : Ref sig .tc := ⟨.hbm, 18, rfl⟩
abbrev main_call0_v13 : Ref sig .tc := ⟨.hbm, 19, rfl⟩
abbrev main_call0_v14 : Ref sig .tc := ⟨.hbm, 20, rfl⟩
abbrev main_v0_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v66 : BitVec 1 := Scalar.cmpi .eq arg0 c7_i32
  let v67 : BitVec 32 := Scalar.extui v66
  let c0_i32_28 : BitVec 32 := 0#32
  let v68 : BitVec 1 := Scalar.cmpi .ne v67 c0_i32_28
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x4096 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x4096 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4096x4096 : Shape := ⟨2, ![4096, 4096]⟩
abbrev S64x4096 : Shape := ⟨2, ![64, 4096]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S64x64 : Shape := ⟨2, ![64, 64]⟩
abbrev S64x64x1 : Shape := ⟨3, ![64, 64, 1]⟩
abbrev S64x64x2 : Shape := ⟨3, ![64, 64, 2]⟩
abbrev S4096x64x1 : Shape := ⟨3, ![4096, 64, 1]⟩
abbrev S4096x1x64 : Shape := ⟨3, ![4096, 1, 64]⟩
abbrev S4096x64x64 : Shape := ⟨3, ![4096, 64, 64]⟩

abbrev nBuf : Space → Nat
  | .hbm => 105
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S64x4096, .f32⟩
  | .hbm, ⟨2, _⟩ => ⟨S4096x64, .f32⟩
  | .hbm, ⟨3, _⟩ => ⟨S4096x64, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x64, .f32⟩
  | .hbm, ⟨17, _⟩ => ⟨S4096x64, .f32⟩
  | .hbm, ⟨18, _⟩ => ⟨S4096x64, .i32⟩
  | .hbm, ⟨19, _⟩ => ⟨S_, .f32⟩
  | .hbm, ⟨20, _⟩ => ⟨S_, .i32⟩
  | .hbm, ⟨21, _⟩ => ⟨S4096, .f32⟩
  | .hbm, ⟨22, _⟩ => ⟨S4096, .i32⟩
  | .hbm, ⟨23, _⟩ => ⟨S4096x1, .i32⟩
  | .hbm, ⟨24, _⟩ => ⟨S64, .i32⟩
  | .hbm, ⟨25, _⟩ => ⟨S1x64, .i32⟩
  | .hbm, ⟨26, _⟩ => ⟨S4096x64, .i32⟩
  | .hbm, ⟨27, _⟩ => ⟨S4096x64, .i32⟩
  | .hbm, ⟨28, _⟩ => ⟨S4096x64, .i1⟩
  | .hbm, ⟨29, _⟩ => ⟨S4096x64, .i32⟩
  | .hbm, ⟨30, _⟩ => ⟨S_, .i32⟩
  | .hbm, ⟨31, _⟩ => ⟨S64, .i32⟩
  | .hbm, ⟨32, _⟩ => ⟨S_, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S4096x64, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S64x4096, .i32⟩
  | .hbm, ⟨49, _⟩ => ⟨S64x64, .i32⟩
  | .hbm, ⟨50, _⟩ => ⟨S64x64, .i32⟩
  | .hbm, ⟨51, _⟩ => ⟨S64x64, .i32⟩
  | .hbm, ⟨52, _⟩ => ⟨S_, .i32⟩
  | .hbm, ⟨53, _⟩ => ⟨S4096x64, .i32⟩
  | .hbm, ⟨54, _⟩ => ⟨S64, .i32⟩
  | .hbm, ⟨55, _⟩ => ⟨S1x64, .i32⟩
  | .hbm, ⟨56, _⟩ => ⟨S_, .i32⟩
  | .hbm, ⟨57, _⟩ => ⟨S64x64, .i32⟩
  | .hbm, ⟨58, _⟩ => ⟨S64x64, .i1⟩
  | .hbm, ⟨59, _⟩ => ⟨S_, .i32⟩
  | .hbm, ⟨60, _⟩ => ⟨S64x64, .i32⟩
  | .hbm, ⟨61, _⟩ => ⟨S64x64, .i32⟩
  | .hbm, ⟨62, _⟩ => ⟨S64x64, .i32⟩
  | .hbm, ⟨63, _⟩ => ⟨S_, .i32⟩
  | .hbm, ⟨64, _⟩ => ⟨S1x64, .i32⟩
  | .hbm, ⟨65, _⟩ => ⟨S1x64, .i1⟩
  | .hbm, ⟨66, _⟩ => ⟨S_, .i32⟩
  | .hbm, ⟨67, _⟩ => ⟨S1x64, .i32⟩
  | .hbm, ⟨68, _⟩ => ⟨S1x64, .i32⟩
  | .hbm, ⟨69, _⟩ => ⟨S1x64, .i32⟩
  | .hbm, ⟨70, _⟩ => ⟨S64x64, .i32⟩
  | .hbm, ⟨71, _⟩ => ⟨S64x64x1, .i32⟩
  | .hbm, ⟨72, _⟩ => ⟨S64x64x1, .i32⟩
  | .hbm, ⟨73, _⟩ => ⟨S64x64x2, .i32⟩
  | .hbm, ⟨74, _⟩ => ⟨S_, .i32⟩
  | .hbm, ⟨75, _⟩ => ⟨S64x64, .i32⟩
  | .hbm, ⟨76, _⟩ => ⟨S4096x64, .i32⟩
  | .hbm, ⟨77, _⟩ => ⟨S4096x64, .i32⟩
  | .hbm, ⟨78, _⟩ => ⟨S_, .i32⟩
  | .hbm, ⟨79, _⟩ => ⟨S_, .i32⟩
  | .hbm, ⟨80, _⟩ => ⟨S4096x64, .i32⟩
  | .hbm, ⟨81, _⟩ => ⟨S_, .i32⟩
  | .hbm, ⟨82, _⟩ => ⟨S4096x64, .i32⟩
  | .hbm, ⟨83, _⟩ => ⟨S4096x64, .i32⟩
  | .hbm, ⟨84, _⟩ => ⟨S4096x64, .i32⟩
  | .hbm, ⟨85, _⟩ => ⟨S_, .i32⟩
  | .hbm, ⟨86, _⟩ => ⟨S4096, .i32⟩
  | .hbm, ⟨87, _⟩ => ⟨S4096x64, .f32⟩
  | .hbm, ⟨88, _⟩ => ⟨S4096x64, .f32⟩
  | .hbm, ⟨89, _⟩ => ⟨S4096x1, .i32⟩
  | .hbm, ⟨90, _⟩ => ⟨S64, .i32⟩
  | .hbm, ⟨91, _⟩ => ⟨S1x64, .i32⟩
  | .hbm, ⟨92, _⟩ => ⟨S4096x64, .i32⟩
  | .hbm, ⟨93, _⟩ => ⟨S4096x64, .i32⟩
  | .hbm, ⟨94, _⟩ => ⟨S4096x64, .i1⟩
  | .hbm, ⟨95, _⟩ => ⟨S4096x64, .f32⟩
  | .hbm, ⟨96, _⟩ => ⟨S4096x64x1, .f32⟩
  | .hbm, ⟨97, _⟩ => ⟨S4096x1x64, .f32⟩
  | .hbm, ⟨98, _⟩ => ⟨S4096x64x64, .f32⟩
  | .hbm, ⟨99, _⟩ => ⟨S4096x64x64, .f32⟩
  | .hbm, ⟨100, _⟩ => ⟨S4096x64x64, .f32⟩
  | .hbm, ⟨101, _⟩ => ⟨S_, .f32⟩
  | .hbm, ⟨102, _⟩ => ⟨S4096x64x64, .f32⟩
  | .hbm, ⟨103, _⟩ => ⟨S4096x64x64, .i1⟩
  | .hbm, ⟨104, _⟩ => ⟨S4096x64x64, .i1⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_values : Ref sig .tc := ⟨.hbm, 49, rfl⟩
abbrev main_indices : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_11 : Ref sig .tc := ⟨.hbm, 63, rfl⟩
abbrev main_v42 : Ref sig .tc := ⟨.hbm, 64, rfl⟩
abbrev main_v43 : Ref sig .tc := ⟨.hbm, 65, rfl⟩
abbrev main_c_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call1_call0_c : Ref sig .tc := ⟨.hbm, 78, rfl⟩
abbrev main_call1_call0_v0 : Ref sig .tc := ⟨.hbm, 79, rfl⟩
abbrev main_v54 : Ref sig .tc := ⟨.hbm, 80, rfl⟩
abbrev main_c_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Proof.DispatchRegion.lean ====
/-
  The second call, `_dispatch_rows`: its body's triple and the proof data of its pipeline, from any contents
  `W` of the core's buffers at the region's entry. Each output block is the body's payload of the two
  input blocks.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through a rectangle that is the whole buffer leaves its payload there. -/
theorem read_store_whole {Val : EltTy → Type} [∀ e, Nonempty (Val e)] {S : Shape} {e : EltTy} {κ : Kind} {sp : Space}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  refine (View.read_writes_eq_canon v f _ ?_).trans (View.canon_cons_unit_zero h inb w L)
  intro y
  refine ⟨_, List.mem_cons_self .., ?_⟩
  exact View.mem_set_unit_zero h inb y

theorem zero2 : (![0, 0] : Fin 2 → ℕ) = fun _ => 0 := by funext a; fin_cases a <;> rfl
theorem zero3 : (![0, 0, 0] : Fin 3 → ℕ) = fun _ => 0 := by funext a; fin_cases a <;> rfl

set_option maxHeartbeats 1000000 in
/-- The body run on whole buffers: the inputs stay, the outputs hold the payloads of the inputs. -/
theorem body_run (c : Dev nD) (E : Set ℕ) (i : grid1.Coords) (arg1 : Memref sig .tc .vmem S1x4096 .i32) (harg1 : arg1.IsWhole)
    (arg2 : Memref sig .tc .vmem S1x4096 .f32) (harg2 : arg2.IsWhole) (arg3 : Memref sig .tc .vmem S512x4096 .f32) (harg3 : arg3.IsWhole)
    (arg4 : Memref sig .tc .vmem S512x4096 .i8) (harg4 : arg4.IsWhole)
    (x0 : Vec F S1x4096 .i32) (x1 : Vec F S1x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay2 i x0 x1) ∗ owns (c : Thread nD τ) arg4 fullShare (k1_pay3 i x0)) -∗ K ⟨⟩))
      ⊢ wp frame (wpE (defs₀ (F := F)) Variants.none c none) E (cc1__dispatch_rows i arg1 harg1 arg2 harg2 arg3 harg3 arg4 harg4) K := by
  simp only [cc1__dispatch_rows_eq_skeleton]; unfold cc1__dispatch_rows_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store_whole _ _ zero2 _ _ []).trans ?_
    exact congrArg₂ (k1_pay2 i) (View.ld_unit_zero zero2 _ _) (View.ld_unit_zero zero2 _ _)
  iexists _; isplitr
  swap; · iexact H3
  ipureintro
  refine (read_store_whole _ _ zero2 _ _ []).trans ?_
  exact congrArg (k1_pay3 i) (View.ld_unit_zero zero2 _ _)

variable (W : (c : Dev nD) → (b : Ref sig .tc) → Buf (Elt F) ((c : Thread nD τ).loc b))

/-- Window `w`'s block at point `t`, read off its array at the entry contents. -/
def blockIn (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The proof data: the inputs' buffers keep their blocks, the outputs' hold the payloads. -/
def dat (c : Dev nD) : Dat τ (Elt F) Unit ℕ (UR sig nD τ) ℕ cfg1 c where
  A w := W c (Pipeline.arrRef spec1 w)
  after w t := match w with
    | ⟨0, _⟩ => blockIn W c 0 t
    | ⟨1, _⟩ => blockIn W c 1 t
    | ⟨2, _⟩ => k1_pay2 (grid1.coords t) (blockIn W c 0 t) (blockIn W c 1 t)
    | ⟨3, _⟩ => k1_pay3 (grid1.coords t) (blockIn W c 0 t)
  Φ _ := Pipeline.ΦA spec1 c
  q _ := fullShare
  owed _ := 0

theorem A_eq (c : Dev nD) (w : Fin cfg1.W) : (dat W c).A w = W c (Pipeline.arrRef spec1 w) := by
  dsimp only [dat]

theorem after_0 (c : Dev nD) (t : Fin cfg1.N) : (dat W c).after 0 t = blockIn W c 0 t := by dsimp only [dat]
theorem after_1 (c : Dev nD) (t : Fin cfg1.N) : (dat W c).after 1 t = blockIn W c 1 t := by dsimp only [dat]
theorem after_2 (c : Dev nD) (t : Fin cfg1.N) :
    (dat W c).after 2 t = k1_pay2 (grid1.coords t) (blockIn W c 0 t) (blockIn W c 1 t) := by dsimp only [dat]
theorem after_3 (c : Dev nD) (t : Fin cfg1.N) :
    (dat W c).after 3 t = k1_pay3 (grid1.coords t) (blockIn W c 0 t) := by dsimp only [dat]

/-- The inputs' staging buffers hold their blocks at every point. -/
theorem before_0 (c : Dev nD) (t : Fin cfg1.N) (d) : (dat W c).before 0 t d = blockIn W c 0 t :=
  ((dat W c).before_in_eq_fetched 0 rfl (fun _ => rfl) (fun _ _ _ => rfl)
    (fun t => by rw [after_0]; unfold Dat.blockOf blockIn; rw [A_eq]; try rfl) t d).trans
    (by unfold Dat.fetched Dat.blockOf blockIn; rw [A_eq]; try rfl)
theorem before_1 (c : Dev nD) (t : Fin cfg1.N) (d) : (dat W c).before 1 t d = blockIn W c 1 t :=
  ((dat W c).before_in_eq_fetched 1 rfl (fun _ => rfl) (fun _ _ _ => rfl)
    (fun t => by rw [after_1]; unfold Dat.blockOf blockIn; rw [A_eq]; try rfl) t d).trans
    (by unfold Dat.fetched Dat.blockOf blockIn; rw [A_eq]; try rfl)

/-- The body at any point, from what the pipeline hands it to what it takes back. -/
theorem body_at (c : Dev nD) (t : Fin cfg1.N) :
    (iprop((dat W c).Φ t.castSucc ∗ (dat W c).owesAt () t.castSucc
      ∗ (∃ d, owns (c : Thread nD τ) (st1_0 t) fullShare ((dat W c).before 0 t d))
      ∗ (∃ d, owns (c : Thread nD τ) (st1_1 t) fullShare ((dat W c).before 1 t d))
      ∗ (∃ d, owns (c : Thread nD τ) (st1_2 t) fullShare ((dat W c).before 2 t d))
      ∗ (∃ d, owns (c : Thread nD τ) (st1_3 t) fullShare ((dat W c).before 3 t d))) : sProp 𝕄)
    ⊢ wp frame (wpE (defs₀ (F := F)) Variants.none c none) Set.univ (bodyAt1 t) (fun _ =>
      iprop((dat W c).Φ t.succ ∗ (dat W c).owesAt () t.succ
      ∗ owns (c : Thread nD τ) (st1_0 t) fullShare ((dat W c).after 0 t)
      ∗ owns (c : Thread nD τ) (st1_1 t) fullShare ((dat W c).after 1 t)
      ∗ owns (c : Thread nD τ) (st1_2 t) fullShare ((dat W c).after 2 t)
      ∗ owns (c : Thread nD τ) (st1_3 t) fullShare ((dat W c).after 3 t))) := by
  unfold bodyAt1
  simp only [before_0, before_1]
  rw [show (dat W c).Φ t.succ = (dat W c).Φ t.castSucc from rfl,
    show (dat W c).owesAt () t.succ = (dat W c).owesAt () t.castSucc from rfl,
    after_0, after_1, after_2, after_3]
  iintro ⟨HΦ, Ho, ⟨%d0, H0⟩, ⟨%d1, H1⟩, ⟨%d2, H2⟩, ⟨%d3, H3⟩⟩
  iapply (body_run c Set.univ (grid1.coords t) _ _ _ _ _ _ _ _ (blockIn W c 0 t) (blockIn W c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_row (t : Fin cfg1.N) :
    defs₀ (F := F) .tc cfg1.body (cfg1.bodyArgs t (cfg1.slots t)) = bodyAt1 t := by
  unfold defs₀; rw [Defs.onTc_tc]

theorem obligation (c : Dev nD) : BodyObligation (dat (F := F) W c) (defs₀ (F := F)) Variants.none () Set.univ := fun t => by
  rw [bigSep_W1, bigSep_W1, body_row]
  exact triple_restated (body_at W c t) rfl .rfl fun _ => .rfl

end Cert.KernelIdeal.Dispatch

end
-- ==== Proof.GateRegion.lean ====
/-
  The first call, `_gate_meta`: its body's triple, what its two scratch columns hold between the points (the
  tokens counted and the gates summed so far, per expert), and the proof data of its pipeline, from any
  contents `W` of the core's buffers at the region's entry.
-/
module

public import proofs.«01_k».proof.Proof.DispatchRegion

@[expose] public section

set_option maxRecDepth 16384

noncomputable section

namespace Cert.KernelIdeal.Gate

open Cert.KernelIdeal Cert.KernelIdeal.Gen
open Cert.KernelIdeal.Dispatch (read_store_whole zero2 zero3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears its scratch at this point. -/
abbrev isFirst (i : grid0.Coords) : Prop := (Scalar.cmpi .ne (Scalar.extui (Scalar.cmpi .eq (BitVec.ofNat 32 (i 0).val) 0#32)) 0#32) = 1#1
/-- The body writes the statistics at this point. -/
abbrev isLast (i : grid0.Coords) : Prop := k0_cond2 i = 1#1

theorem isFirst_iff : ∀ t : Fin cfg0.N, isFirst (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [isFirst, e0]
    word_cmp
   : ∀ t : Fin grid0.N, isFirst (grid0.coords t) ↔ t.val % 8 = 0)

theorem isLast_iff : ∀ t : Fin cfg0.N, isLast (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [isLast, k0_cond2, e0]
    word_cmp
   : ∀ t : Fin grid0.N, isLast (grid0.coords t) ↔ t.val % 8 = 7)

theorem idle_4 : ∀ t : Fin cfg0.N, ¬isLast (grid0.coords t) → cfg0.idle 4 (grid0.coords t) = true := by decide +kernel
theorem live_4 : ∀ t : Fin cfg0.N, isLast (grid0.coords t) → cfg0.idle 4 (grid0.coords t) = false := by decide +kernel
theorem noFlush_4 : ∀ t : Fin cfg0.N, ¬isLast (grid0.coords t) → (cfg0.win 4).flush t = false := by decide +kernel

/-- What a load through the whole buffer finds right after a store through it. -/
theorem load_after_store {Val : EltTy → Type} [∀ e, Nonempty (Val e)] {S : Shape} {e : EltTy} {κ : Kind} {sp : Space}
    (v : View sig κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- A function of three arguments at equal arguments. -/
theorem congr3 {α β γ δ : Type} (f : α → β → γ → δ) {a a' : α} {b b' : β} {c c' : γ} (ha : a = a') (hb : b = b') (hc : c = c') :
    f a b c = f a' b' c' := by subst ha hb hc; rfl

set_option maxHeartbeats 4000000 in
/-- The body run on whole buffers. The scratch columns hold `a`, `b`; the run counts on from `a'`, `b'`, which are
    the cleared columns at the first point and `a`, `b` elsewhere. The last buffer is written at the last point alone. -/
theorem body_run (c : Dev nD) (E : Set ℕ) (i : grid0.Coords) (arg1 : Memref sig .tc .vmem S512x4096 .f32) (harg1 : arg1.IsWhole)
    (arg2 : Memref sig .tc .vmem S64x4096 .f32) (harg2 : arg2.IsWhole) (arg3 : Memref sig .tc .vmem S1x1x512 .i32) (harg3 : arg3.IsWhole)
    (arg4 : Memref sig .tc .vmem S1x1x512 .f32) (harg4 : arg4.IsWhole) (arg5 : Memref sig .tc .vmem S64x8 .f32) (harg5 : arg5.IsWhole)
    (arg6 : Memref sig .tc .vmem S64x1 .f32) (harg6 : arg6.IsWhole) (arg7 : Memref sig .tc .vmem S64x1 .f32) (harg7 : arg7.IsWhole)
    (x0 : Vec F S512x4096 .f32) (x1 : Vec F S64x4096 .f32) (d4 s : Vec F S64x8 .f32) (a b a' b' : Vec F S64x1 .f32)
    (ha : isFirst i → a' = k0_pay6 ∧ b' = k0_pay7) (hb : ¬isFirst i → a' = a ∧ b' = b)
    (hs : isLast i → s = k0_pay5 (k0_pay3 (k0_pay12 x0 x1) a') (k0_pay4 (k0_pay8 x0 x1) b')) (hs' : ¬isLast i → s = d4)
    (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare d4 ∗ owns (c : Thread nD τ) arg6 fullShare a ∗ owns (c : Thread nD τ) arg7 fullShare b
        ∗ (iprop(owns (c : Thread nD τ) arg1 fullShare x0 ∗ owns (c : Thread nD τ) arg2 fullShare x1
            ∗ owns (c : Thread nD τ) arg3 fullShare (k0_pay1 (k0_pay10 x0 x1) (k0_pay13 x0 x1 a'))
            ∗ owns (c : Thread nD τ) arg4 fullShare (k0_pay2 (k0_pay9 x0 x1))
            ∗ owns (c : Thread nD τ) arg5 fullShare s
            ∗ owns (c : Thread nD τ) arg6 fullShare (k0_pay3 (k0_pay12 x0 x1) a')
            ∗ owns (c : Thread nD τ) arg7 fullShare (k0_pay4 (k0_pay8 x0 x1) b')) -∗ K ⟨⟩))
      ⊢ wp frame (wpE (defs₀ (F := F)) Variants.none c none) E
          (cc0__gate_meta i arg1 harg1 arg2 harg2 arg3 harg3 arg4 harg4 arg5 harg5 arg6 harg6 arg7 harg7) K := by
  simp only [cc0__gate_meta_eq_skeleton]; unfold cc0__gate_meta_skel
  simp only [k0_part1_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%f6, %hf6, H6⟩, Hk⟩
  subst hf0 hf1 hf4 hf5 hf6
  by_cases h0 : isFirst i <;> by_cases h1 : isLast i
  all_goals
    sl_exec (disch := first | sl_exact h0 | sl_exact h1)
    sl_step
    iapply Hk
    isplitl [H0]
    · iexists f0; isplitr; · ipureintro; rfl
      iexact H0
    isplitl [H1]
    · iexists f1; isplitr; · ipureintro; rfl
      iexact H1
    have e0 := View.ld_unit_zero zero2 inb_S512x4096_S512x4096_0_0 (View.read (Elt F) arg1.view f0)
    have e1 := View.ld_unit_zero zero2 inb_S64x4096_S64x4096_0_0 (View.read (Elt F) arg2.view f1)
    isplitl [H2]
    · iexists _; isplitr
      swap; · iexact H2
      ipureintro
      refine (read_store_whole (S := S1x1x512) _ _ zero3 _ _ _).trans (congrArg₂ k0_pay1 (congrArg₂ k0_pay10 e0 e1) (congr3 k0_pay13 e0 e1 ?_))
      first
        | exact (load_after_store (S := S64x1) _ zero2 _ _ _).trans (ha h0).1.symm
        | exact (View.ld_unit_zero (S := S64x1) zero2 _ _).trans (hb h0).1.symm
    isplitl [H3]
    · iexists _; isplitr
      swap; · iexact H3
      ipureintro
      exact (read_store_whole (S := S1x1x512) _ _ zero3 _ _ _).trans (congrArg k0_pay2 (congrArg₂ k0_pay9 e0 e1))
    isplitl [H4]
    · iexists _; isplitr
      swap; · iexact H4
      ipureintro
      first
        | exact (hs' h1).symm
        | exact (read_store_whole (S := S64x8) _ _ zero2 _ _ _).trans ((congrArg₂ k0_pay5
              ((load_after_store (S := S64x1) _ zero2 _ _ _).trans (congrArg₂ k0_pay3 (congrArg₂ k0_pay12 e0 e1) ((load_after_store (S := S64x1) _ zero2 _ _ _).trans (ha h0).1.symm)))
              ((load_after_store (S := S64x1) _ zero2 _ _ _).trans (congrArg₂ k0_pay4 (congrArg₂ k0_pay8 e0 e1) ((load_after_store (S := S64x1) _ zero2 _ _ _).trans (ha h0).2.symm)))).trans (hs h1).symm)
        | exact (read_store_whole (S := S64x8) _ _ zero2 _ _ _).trans ((congrArg₂ k0_pay5
              ((load_after_store (S := S64x1) _ zero2 _ _ _).trans (congrArg₂ k0_pay3 (congrArg₂ k0_pay12 e0 e1) ((View.ld_unit_zero (S := S64x1) zero2 _ _).trans (hb h0).1.symm)))
              ((load_after_store (S := S64x1) _ zero2 _ _ _).trans (congrArg₂ k0_pay4 (congrArg₂ k0_pay8 e0 e1) ((View.ld_unit_zero (S := S64x1) zero2 _ _).trans (hb h0).2.symm)))).trans (hs h1).symm)
    isplitl [H5]
    · iexists _; isplitr
      swap; · iexact H5
      ipureintro
      refine (read_store_whole (S := S64x1) _ _ zero2 _ _ _).trans (congrArg₂ k0_pay3 (congrArg₂ k0_pay12 e0 e1) ?_)
      first
        | exact (load_after_store (S := S64x1) _ zero2 _ _ _).trans (ha h0).1.symm
        | exact (View.ld_unit_zero (S := S64x1) zero2 _ _).trans (hb h0).1.symm
    iexists _; isplitr
    swap; · iexact H6
    ipureintro
    refine (read_store_whole (S := S64x1) _ _ zero2 _ _ _).trans (congrArg₂ k0_pay4 (congrArg₂ k0_pay8 e0 e1) ?_)
    first
      | exact (load_after_store (S := S64x1) _ zero2 _ _ _).trans (ha h0).2.symm
      | exact (View.ld_unit_zero (S := S64x1) zero2 _ _).trans (hb h0).2.symm

variable (W : (c : Dev nD) → (b : Ref sig .tc) → Buf (Elt F) ((c : Thread nD τ).loc b))

/-- Window `w`'s block at point `t`, read off its array at the entry contents. -/
def blockIn (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- The tokens' block and the weights at point `n`, for any number `n`. -/
def tokens (c : Dev nD) (n : ℕ) : Vec F S512x4096 .f32 := if h : n < cfg0.N then blockIn W c 0 ⟨n, h⟩ else blockIn W c 0 ⟨0, Nat.lt_of_lt_of_eq (by decide : 0 < 8) N_0.symm⟩
def weights (c : Dev nD) (n : ℕ) : Vec F S64x4096 .f32 := if h : n < cfg0.N then blockIn W c 1 ⟨n, h⟩ else blockIn W c 1 ⟨0, Nat.lt_of_lt_of_eq (by decide : 0 < 8) N_0.symm⟩

theorem tokens_at (c : Dev nD) (t : Fin cfg0.N) : tokens W c t.val = blockIn W c 0 t := by simp only [tokens, t.isLt, dite_true]
theorem weights_at (c : Dev nD) (t : Fin cfg0.N) : weights W c t.val = blockIn W c 1 t := by simp only [weights, t.isLt, dite_true]

/-- The first scratch column before point `n`: per expert, the tokens of the earlier blocks sent to it. -/
def counted (c : Dev nD) : ℕ → Vec F S64x1 .f32
  | 0 => k0_pay6
  | n + 1 => k0_pay3 (k0_pay12 (tokens W c n) (weights W c n)) (counted c n)

/-- The second scratch column before point `n`: per expert, the gates of the earlier blocks' tokens summed. -/
def gated (c : Dev nD) : ℕ → Vec F S64x1 .f32
  | 0 => k0_pay7
  | n + 1 => k0_pay4 (k0_pay8 (tokens W c n) (weights W c n)) (gated c n)

theorem counted_next (c : Dev nD) (t : Fin cfg0.N) :
    counted W c (t.val + 1) = k0_pay3 (k0_pay12 (blockIn W c 0 t) (blockIn W c 1 t)) (counted W c t.val) := by
  rw [counted, tokens_at, weights_at]

theorem gated_next (c : Dev nD) (t : Fin cfg0.N) :
    gated W c (t.val + 1) = k0_pay4 (k0_pay8 (blockIn W c 0 t) (blockIn W c 1 t)) (gated W c t.val) := by
  rw [gated, tokens_at, weights_at]

abbrev cntBuf : Memref sig .tc .vmem S64x1 .f32 := Memref.whole cc0_scratch0
abbrev sumBuf : Memref sig .tc .vmem S64x1 .f32 := Memref.whole cc0_scratch1

/-- The other call's staging buffers, at any contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem scoped_eq (c : Dev nD) :
    (Pipeline.scopedRest spec0 c : sProp 𝕄)
      = iprop((∃ d, owns (c : Thread nD τ) cntBuf fullShare d) ∗ (∃ d, owns (c : Thread nD τ) sumBuf fullShare d) ∗ others c) := by
  rw [scopedRest0_eq]; simp only [cntBuf, sumBuf, owns_whole, others]; try rfl

/-- Before point `n`: the scratch columns hold `counted n` and `gated n`, but at the first point anything. -/
def carried (c : Dev nD) (n : ℕ) : sProp 𝕄 :=
  iprop((∃ a b, ⌜n ≠ 0 → a = counted W c n ∧ b = gated W c n⌝ ∗ owns (c : Thread nD τ) cntBuf fullShare a ∗ owns (c : Thread nD τ) sumBuf fullShare b)
    ∗ others c ∗ (∃ r, prngReg c r))

/-- The proof data of the first call's pipeline. -/
def dat (c : Dev nD) : Dat τ (Elt F) Unit ℕ (UR sig nD τ) ℕ cfg0 c where
  A w := W c (Pipeline.arrRef spec0 w)
  after w t := match w with
    | ⟨0, _⟩ => blockIn W c 0 t
    | ⟨1, _⟩ => blockIn W c 1 t
    | ⟨2, _⟩ => k0_pay1 (k0_pay10 (tokens W c t.val) (weights W c t.val)) (k0_pay13 (tokens W c t.val) (weights W c t.val) (counted W c t.val))
    | ⟨3, _⟩ => k0_pay2 (k0_pay9 (tokens W c t.val) (weights W c t.val))
    | ⟨4, _⟩ => k0_pay5 (counted W c (t.val + 1)) (gated W c (t.val + 1))
  Φ t := carried W c t.val
  q _ := fullShare
  owed _ := 0

theorem A_eq (c : Dev nD) (w : Fin cfg0.W) : (dat W c).A w = W c (Pipeline.arrRef spec0 w) := by
  dsimp only [dat]

theorem after_0 (c : Dev nD) (t : Fin cfg0.N) : (dat W c).after 0 t = blockIn W c 0 t := by dsimp only [dat]
theorem after_1 (c : Dev nD) (t : Fin cfg0.N) : (dat W c).after 1 t = blockIn W c 1 t := by dsimp only [dat]
theorem after_2 (c : Dev nD) (t : Fin cfg0.N) : (dat W c).after 2 t
    = k0_pay1 (k0_pay10 (tokens W c t.val) (weights W c t.val)) (k0_pay13 (tokens W c t.val) (weights W c t.val) (counted W c t.val)) := by dsimp only [dat]
theorem after_3 (c : Dev nD) (t : Fin cfg0.N) : (dat W c).after 3 t = k0_pay2 (k0_pay9 (tokens W c t.val) (weights W c t.val)) := by dsimp only [dat]
theorem after_4 (c : Dev nD) (t : Fin cfg0.N) : (dat W c).after 4 t = k0_pay5 (counted W c (t.val + 1)) (gated W c (t.val + 1)) := by dsimp only [dat]

theorem before_0 (c : Dev nD) (t : Fin cfg0.N) (d) : (dat W c).before 0 t d = blockIn W c 0 t :=
  ((dat W c).before_in_eq_fetched 0 rfl (fun _ => rfl) (fun _ _ _ => rfl)
    (fun t => by rw [after_0]; unfold Dat.blockOf blockIn; rw [A_eq]; try rfl) t d).trans
    (by unfold Dat.fetched Dat.blockOf blockIn; rw [A_eq]; try rfl)
theorem before_1 (c : Dev nD) (t : Fin cfg0.N) (d) : (dat W c).before 1 t d = blockIn W c 1 t :=
  ((dat W c).before_in_eq_fetched 1 rfl (fun _ => rfl) (fun _ _ _ => rfl)
    (fun t => by rw [after_1]; unfold Dat.blockOf blockIn; rw [A_eq]; try rfl) t d).trans
    (by unfold Dat.fetched Dat.blockOf blockIn; rw [A_eq]; try rfl)

/-- What the body leaves in the statistics' buffer at point `t`, found there as `d`. -/
def statsLeft (c : Dev nD) (t : Fin cfg0.N) (d : Vec F S64x8 .f32) : Vec F S64x8 .f32 :=
  if isLast (grid0.coords t) then k0_pay5 (counted W c (t.val + 1)) (gated W c (t.val + 1)) else d

theorem statsLeft_entails (c : Dev nD) (t : Fin cfg0.N) (d) :
    (owns (c : Thread nD τ) (st0_4 t) fullShare (statsLeft W c t ((dat W c).before 4 t d)) : sProp 𝕄) ⊢ (dat W c).leavesExact 4 t := by
  by_cases h : isLast (grid0.coords t)
  · rw [show (dat W c).leavesExact 4 t = owns (c : Thread nD τ) (st0_4 t) fullShare ((dat W c).after 4 t) from by
      unfold Dat.leavesExact; rw [live_4 t h], after_4]
    unfold statsLeft; rw [if_pos h]
  · rw [Dat.leavesExact_idle (dat W c) 4 t (idle_4 t h) (noFlush_4 t h)]
    unfold statsLeft; rw [if_neg h]
    iintro H
    iexists d; iexact H

theorem body_at (c : Dev nD) (t : Fin cfg0.N) :
    (iprop((dat W c).Φ t.castSucc ∗ (dat W c).owesAt () t.castSucc
      ∗ (∃ d, owns (c : Thread nD τ) (st0_0 t) fullShare ((dat W c).before 0 t d))
      ∗ (∃ d, owns (c : Thread nD τ) (st0_1 t) fullShare ((dat W c).before 1 t d))
      ∗ (∃ d, owns (c : Thread nD τ) (st0_2 t) fullShare ((dat W c).before 2 t d))
      ∗ (∃ d, owns (c : Thread nD τ) (st0_3 t) fullShare ((dat W c).before 3 t d))
      ∗ (∃ d, owns (c : Thread nD τ) (st0_4 t) fullShare ((dat W c).before 4 t d))) : sProp 𝕄)
    ⊢ wp frame (wpE (defs₀ (F := F)) Variants.none c none) Set.univ (bodyAt0 t) (fun _ =>
      iprop((dat W c).Φ t.succ ∗ (dat W c).owesAt () t.succ
      ∗ (dat W c).leavesExact 0 t ∗ (dat W c).leavesExact 1 t ∗ (dat W c).leavesExact 2 t
      ∗ (dat W c).leavesExact 3 t ∗ (dat W c).leavesExact 4 t)) := by
  unfold bodyAt0
  simp only [before_0, before_1]
  have hN : t.val < 8 := lt_of_lt_of_eq t.isLt (show cfg0.N = 8 from N_0)
  rw [show (dat W c).Φ t.succ = carried W c (t.val + 1) from rfl,
    show (dat W c).Φ t.castSucc = carried W c t.val from rfl,
    show (dat W c).owesAt () t.succ = (dat W c).owesAt () t.castSucc from rfl,
    show (dat W c).leavesExact 0 t = owns (c : Thread nD τ) (st0_0 t) fullShare ((dat W c).after 0 t) from rfl,
    show (dat W c).leavesExact 1 t = owns (c : Thread nD τ) (st0_1 t) fullShare ((dat W c).after 1 t) from rfl,
    show (dat W c).leavesExact 2 t = owns (c : Thread nD τ) (st0_2 t) fullShare ((dat W c).after 2 t) from rfl,
    show (dat W c).leavesExact 3 t = owns (c : Thread nD τ) (st0_3 t) fullShare ((dat W c).after 3 t) from rfl,
    after_0, after_1, after_2, after_3, tokens_at, weights_at]
  unfold carried
  iintro ⟨⟨⟨%a, %b, %hab, HA, HB⟩, Hoth, Hg⟩, Ho, ⟨%d0, H0⟩, ⟨%d1, H1⟩, ⟨%d2, H2⟩, ⟨%d3, H3⟩, ⟨%d4, H4⟩⟩
  iapply (body_run c Set.univ (grid0.coords t) _ _ _ _ _ _ _ _ _ _ _ _ _ _ (blockIn W c 0 t) (blockIn W c 1 t) ((dat W c).before 4 t d4)
    (statsLeft W c t ((dat W c).before 4 t d4)) a b (counted W c t.val) (gated W c t.val)
    (fun h => by
      have h8 := (isFirst_iff t).mp h
      have hz : t.val = 0 := by omega
      rw [hz]; exact ⟨rfl, rfl⟩)
    (fun h => by
      obtain ⟨h1, h2⟩ := hab (fun hz => h ((isFirst_iff t).mpr (by omega)))
      exact ⟨h1.symm, h2.symm⟩)
    (fun h => by
      unfold statsLeft; rw [if_pos h, counted_next, gated_next])
    (fun h => by unfold statsLeft; rw [if_neg h]) _)
  isplitl [H0]; · iexact H0
  isplitl [H1]; · iexact H1
  isplitl [H2]; · iexists _; iexact H2
  isplitl [H3]; · iexists _; iexact H3
  isplitl [H4]; · iexact H4
  isplitl [HA]; · iexact HA
  isplitl [HB]; · iexact HB
  iintro ⟨H0, H1, H2, H3, H4, HA, HB⟩
  isplitl [HA HB Hoth Hg]
  · isplitl [HA HB]
    · iexists _, _
      isplitr
      · ipureintro
        intro _
        exact ⟨rfl, rfl⟩
      isplitl [HA]
      · rw [counted_next]; iexact HA
      rw [gated_next]; iexact HB
    isplitl [Hoth]; · iexact Hoth
    iexact Hg
  isplitl [Ho]; · iexact Ho
  isplitl [H0]; · iexact H0
  isplitl [H1]; · iexact H1
  isplitl [H2]; · iexact H2
  isplitl [H3]; · iexact H3
  iapply (statsLeft_entails W c t d4)
  iexact H4

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dat (F := F) W c) (defs₀ (F := F)) Variants.none () Set.univ := fun t => by
  rw [bigSep_W0, bigSep_W0, body_row]
  exact triple_restated (body_at W c t) rfl .rfl fun _ => .rfl

/-- What the region is entered with makes the invariant before the first point. -/
theorem carried_in (c : Dev nD) : iprop(Pipeline.scopedRest spec0 c ∗ (∃ r, prngReg c r)) ⊢ (dat (F := F) W c).Φ 0 := by
  rw [show (dat W c).Φ 0 = carried W c 0 from rfl, scoped_eq]
  unfold carried
  iintro ⟨⟨⟨%a, HA⟩, ⟨%b, HB⟩, Hoth⟩, Hg⟩
  isplitl [HA HB]
  · iexists a, b
    isplitr; · ipureintro; intro h; exact absurd rfl h
    isplitl [HA]; · iexact HA
    iexact HB
  isplitl [Hoth]; · iexact Hoth
  iexact Hg

/-- The invariant after the last point gives back what the region was entered with. -/
theorem carried_out (c : Dev nD) : (dat (F := F) W c).Φ (Fin.last cfg0.N) ⊢ iprop(Pipeline.scopedRest spec0 c ∗ (∃ r, prngReg c r)) := by
  rw [show (dat W c).Φ (Fin.last cfg0.N) = carried W c cfg0.N from rfl, scoped_eq]
  unfold carried
  iintro ⟨⟨%a, %b, -, HA, HB⟩, Hoth, Hg⟩
  isplitl [HA HB Hoth]
  · isplitl [HA]; · iexists a; iexact HA
    isplitl [HB]; · iexists b; iexact HB
    iexact Hoth
  iexact Hg

end Cert.KernelIdeal.Gate

end
-- ==== Proof.KernelRun.lean ====
/-
  The kernel's run: the first call, three host operations, the second call, the host operations that unpack the
  statistics and reshape the results. At any float values, from any memory: the run ends, every counter is back at
  zero, and every buffer of the host program holds what `ending` says.
-/
module

public import proofs.«01_k».proof.Proof.GateRegion
public import proofs.«01_k».proof.Proof.Gen.KernelIdeal.Regions
public import Idealize.ShloMosaic.Lib.Pipeline.RegionArraysS
public import Idealize.ShloMosaic.Lib.Pipeline.Frame

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf PCfg RegionSeg HostSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers as launched, -/
abbrev launched (c : Dev nD) : Valuation τ sig (Elt F) := fun b => m (c, b)
/-- the first call's proof data, -/
abbrev gateDat (c : Dev nD) := Gate.dat (F := F) (fun c b => launched m c b) c
/-- the buffers after the first call, -/
abbrev gateLeft (c : Dev nD) : Valuation τ sig (Elt F) := Pipeline.afterRegion (gateDat m c) (launched m c)
/-- after the host operations between the calls, -/
abbrev between (c : Dev nD) : Valuation τ sig (Elt F) := StableHlo.after hostOps1 (gateLeft m c)
/-- the second call's proof data, -/
abbrev dispatchDat (c : Dev nD) := Dispatch.dat (F := F) (fun c b => between m c b) c
/-- the buffers after the second call, -/
abbrev dispatchLeft (c : Dev nD) : Valuation τ sig (Elt F) := Pipeline.afterRegion (dispatchDat m c) (between m c)
/-- and at the end. -/
abbrev ending (c : Dev nD) : Valuation τ sig (Elt F) := StableHlo.after hostOps2 (dispatchLeft m c)

/-- Both calls' proof data. -/
def pdats : (p : Fin 2) → (c : Dev nD) → Dat τ (Elt F) Unit ℕ (UR sig nD τ) ℕ (cfgs p) c
  | ⟨0, _⟩ => fun c => gateDat m c
  | ⟨1, _⟩ => fun c => dispatchDat m c

/-- Every TensorCore semaphore may be waited on, all at one level. -/
abbrev L (g : GSem nD τ sig) : Finset Unit := if g.1.2 = .tc then {()} else ∅
abbrev lv (_ : GSem nD τ sig) (_ : Unit) : ℕ := 0

theorem L_off (g : GSem nD τ sig) (h : g.1.2 ≠ .tc) : L g = ∅ := if_neg h

theorem cut (p : Fin 2) : Pipeline.LevelCut (pcfgs (F := F)) adm () L lv p (fun _ => 0) (fun _ => 0) where
  hι c w s := by show () ∈ L _; simp [L]
  hιb c w s := le_rfl
  hD c g i h := absurd h (lt_irrefl _)

/-- What rides along: nothing owed, and the generator register. -/
abbrev rest (_ : Fin 3) (c : Dev nD) : sProp 𝕄 :=
  iprop((∃ Wd, owes (c : Thread nD τ) (0 : CellTallies nD τ sig Unit) Wd) ∗ (∃ r, prngReg c r) ∗ BI.emp)

theorem gate_in (c : Dev nD) : iprop(Pipeline.scopedRest spec0 c ∗ (∃ r, prngReg c r)) ⊢ (pdats m 0 c).Φ 0 := Gate.carried_in _ c
theorem gate_out (c : Dev nD) : (pdats m 0 c).Φ (Fin.last cfg0.N) ⊢ iprop(Pipeline.scopedRest spec0 c ∗ (∃ r, prngReg c r)) :=
  Gate.carried_out _ c
theorem gate_arrays (c : Dev nD) (w) : (pdats m 0 c).arrAt w 0 = launched m c (Proc.devRef .tc (Pipeline.arrRef spec0 w)) :=
  Gate.A_eq (fun c b => launched m c b) c w

theorem dispatch_in (c : Dev nD) : iprop(Pipeline.scopedRest spec1 c ∗ (∃ r, prngReg c r)) ⊢ (pdats m 1 c).Φ 0 := by
  show iprop(_ ∗ _) ⊢ Pipeline.ΦA spec1 c
  unfold Pipeline.ΦA; exact .rfl
theorem dispatch_out (c : Dev nD) : (pdats m 1 c).Φ (Fin.last cfg1.N) ⊢ iprop(Pipeline.scopedRest spec1 c ∗ (∃ r, prngReg c r)) := by
  show Pipeline.ΦA spec1 c ⊢ iprop(_ ∗ _)
  unfold Pipeline.ΦA; exact .rfl
theorem dispatch_arrays (c : Dev nD) (w) : (pdats m 1 c).arrAt w 0 = between m c (Proc.devRef .tc (Pipeline.arrRef spec1 w)) :=
  Dispatch.A_eq (fun c b => between m c b) c w

def gateSeg : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (Gate.obligation _ c).loose) (fun _ _ => rfl) (fun _ => rfl) (fun c => (gateDat m c).share_full fun _ => rfl)
    (gate_in m) (gate_out m) (fun _ => 0) (cut 0) (fun _ => BI.emp) (launched m) (gate_arrays m)

def dispatchSeg : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (Dispatch.obligation _ c).loose) (fun _ _ => rfl) (fun _ => rfl) (fun c => (dispatchDat m c).share_full fun _ => rfl)
    (dispatch_in m) (dispatch_out m) (fun _ => 0) (cut 1) (fun _ => BI.emp) (between m) (dispatch_arrays m)

def middleSeg : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (gateLeft m) (rest 1)

def finalSeg : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (dispatchLeft m) (rest 2)

abbrev segs (_ : Dev nD) : List (Seg (pcfgs (F := F)) adm (pdats m) () defs₀ Variants.none L lv) :=
  [.region (gateSeg m), .host (middleSeg m), .region (dispatchSeg m), .host (finalSeg m)]

theorem arrs0 : ∀ w, (Pipeline.arrRef spec0 w).isScoped = false := by decide
theorem arrs1 : ∀ w, (Pipeline.arrRef spec1 w).isScoped = false := by decide

abbrev at' (W : Dev nD → Valuation τ sig (Elt F)) (i : Fin 3) (c : Dev nD) : sProp 𝕄 :=
  iprop(StableHlo.held (c : Thread nD τ) (Pipeline.ucRefs τ sig) (W c) ∗ rest i c)

theorem gate_pre (c : Dev nD) : at' (launched m) 0 c ⊢ (gateSeg m).pre c := by
  unfold gateSeg
  have h := RegionSeg.ofHeldIn_pre (pcs := pcfgs (F := F)) (a := adm) (pdats := pdats m) (ι := ()) (defs₀ := defs₀) (𝒱₀ := Variants.none) (L := L)
    (lv := lv) (p := 0) (D := fun _ => 0) (S := Pipeline.ucRefs τ sig) (X := fun c => iprop(∃ r, prngReg c r)) (Y := fun c => iprop(∃ r, prngReg c r))
    (kit := launch0.toP) (hK := rfl) (hbody := fun c => (Gate.obligation _ c).loose) (howed := fun _ _ => rfl) (hrec := fun _ => rfl)
    (hshare := fun c => (gateDat m c).share_full fun _ => rfl) (b := fun _ => 0) (hcut := cut 0) (R := fun _ => BI.emp) (W := launched m)
    (hin := gate_in m) (hout := gate_out m) (hW := gate_arrays m) (Pipeline.arrRefs_sub_ucRefs _ arrs0) c
  exact h

theorem gate_post (c : Dev nD) : (gateSeg m).post c ⊢ at' (gateLeft m) 1 c := by
  unfold gateSeg
  have h := RegionSeg.ofHeldIn_post (pcs := pcfgs (F := F)) (a := adm) (pdats := pdats m) (ι := ()) (defs₀ := defs₀) (𝒱₀ := Variants.none) (L := L)
    (lv := lv) (p := 0) (D := fun _ => 0) (S := Pipeline.ucRefs τ sig) (X := fun c => iprop(∃ r, prngReg c r)) (Y := fun c => iprop(∃ r, prngReg c r))
    (kit := launch0.toP) (hK := rfl) (hbody := fun c => (Gate.obligation _ c).loose) (howed := fun _ _ => rfl) (hrec := fun _ => rfl)
    (hshare := fun c => (gateDat m c).share_full fun _ => rfl) (b := fun _ => 0) (hcut := cut 0) (R := fun _ => BI.emp) (W := launched m)
    (hin := gate_in m) (hout := gate_out m) (hW := gate_arrays m) (Pipeline.arrRefs_sub_ucRefs _ arrs0) c
  exact h

theorem dispatch_pre (c : Dev nD) : at' (between m) 1 c ⊢ (dispatchSeg m).pre c := by
  unfold dispatchSeg
  have h := RegionSeg.ofHeldIn_pre (pcs := pcfgs (F := F)) (a := adm) (pdats := pdats m) (ι := ()) (defs₀ := defs₀) (𝒱₀ := Variants.none) (L := L)
    (lv := lv) (p := 1) (D := fun _ => 0) (S := Pipeline.ucRefs τ sig) (X := fun c => iprop(∃ r, prngReg c r)) (Y := fun c => iprop(∃ r, prngReg c r))
    (kit := launch1.toP) (hK := rfl) (hbody := fun c => (Dispatch.obligation _ c).loose) (howed := fun _ _ => rfl) (hrec := fun _ => rfl)
    (hshare := fun c => (dispatchDat m c).share_full fun _ => rfl) (b := fun _ => 0) (hcut := cut 1) (R := fun _ => BI.emp) (W := between m)
    (hin := dispatch_in m) (hout := dispatch_out m) (hW := dispatch_arrays m) (Pipeline.arrRefs_sub_ucRefs _ arrs1) c
  exact h

theorem dispatch_post (c : Dev nD) : (dispatchSeg m).post c ⊢ at' (dispatchLeft m) 2 c := by
  unfold dispatchSeg
  have h := RegionSeg.ofHeldIn_post (pcs := pcfgs (F := F)) (a := adm) (pdats := pdats m) (ι := ()) (defs₀ := defs₀) (𝒱₀ := Variants.none) (L := L)
    (lv := lv) (p := 1) (D := fun _ => 0) (S := Pipeline.ucRefs τ sig) (X := fun c => iprop(∃ r, prngReg c r)) (Y := fun c => iprop(∃ r, prngReg c r))
    (kit := launch1.toP) (hK := rfl) (hbody := fun c => (Dispatch.obligation _ c).loose) (howed := fun _ _ => rfl) (hrec := fun _ => rfl)
    (hshare := fun c => (dispatchDat m c).share_full fun _ => rfl) (b := fun _ => 0) (hcut := cut 1) (R := fun _ => BI.emp) (W := between m)
    (hin := dispatch_in m) (hout := dispatch_out m) (hW := dispatch_arrays m) (Pipeline.arrRefs_sub_ucRefs _ arrs1) c
  exact h

set_option backward.isDefEq.respectTransparency.types false in
set_option maxHeartbeats 2000000 in
/-- The run. -/
theorem run : θ_run defs (onTc (τ := τ) (main (F := F))) ⟨m, fun _ => 0, ρ⟩ (fun r =>
      (∀ (c : Dev nD) (b : Ref sig .tc), b.isScoped = false → r.2.mem ((c.tc : Thread nD τ).loc b) = ending m c b)
      ∧ r.2.sem = fun _ => 0) := by
  refine Pipeline.θ_run_regions_kit_dev_sems (pcfgs (F := F)) adm (pdats m) () cellOf_inj emb₁ defs₀ Variants.none L lv m ρ main
    (segs m)
    (fun c Q => by
      rewrite [main_chain c, Seg.run_eq_chain,
        show (segs m c).map Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) L_off
    (fun _ => BI.emp) (initOf (Pipeline.cells cfgs cellOf_inj) (Pipeline.launchToks cfgs cellOf_inj))
    ?_
    (T₀ := fun c => iprop(StableHlo.held (c : Thread nD τ) (Pipeline.ucRefs τ sig) (launched m c) ∗ rest 0 c))
    (Tₙ := fun c => StableHlo.held (c : Thread nD τ) (Pipeline.ucRefs τ sig) (ending m c))
    (hch := fun c => ⟨gate_pre m c, gate_post m c, dispatch_pre m c, dispatch_post m c, sep_mono .rfl ?_⟩)
    (hinit := ?_)
    (QY := fun c s => ∀ b : Ref sig .tc, b.isScoped = false → s.mem ((c.tc : Thread nD τ).loc b) = ending m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨HO, -, -⟩
    iexact HO
  · refine Pipeline.initEach L lv fun c => ?_
    rw [show unscopedBufs c (fun b => m ((c.tc : Thread nD τ).loc b)) = StableHlo.held (c : Thread nD τ) (Pipeline.ucRefs τ sig) (launched m c)
      from Pipeline.unscopedBufs_held (Ix := Unit) (Name := ℕ) (U := UR sig nD τ) (Lvl := ℕ) c (launched m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (ending m c) s') $$ [Hh HSI]
    · isplitl [Hh] <;> iassumption
    icases Hr with ⟨%h, HSI⟩
    imodintro
    isplitr
    · ipureintro
      intro b hb
      exact h (Proc.devRef .tc b) (Finset.mem_filter.mpr ⟨StableHlo.devRef_mem_tcRefs b, fun h' => Bool.false_ne_true (hb.symm.trans h')⟩)
    · iexact HSI

end Cert.KernelIdeal.Whole

end
-- ==== Proof.KernelFrames.lean ====
/-
  What the kernel leaves: its two arguments as launched, its results at the host program's last values. And the
  program as printed, which no rewrite touched, is the ideal one's own text: its run is that run at bit patterns.
-/
module

public import proofs.«01_k».proof.Defs
public import proofs.«01_k».proof.Proof.Gen.Kernel
public import proofs.«01_k».proof.Proof.KernelRun

@[expose] public section

set_option maxRecDepth 16384

noncomputable section

namespace Cert.KernelIdeal.Whole

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem arr_inj0 : Function.Injective (Pipeline.arrRef spec0) := by decide
theorem arr_inj1 : Function.Injective (Pipeline.arrRef spec1) := by decide

theorem gateLeft_keeps (c : Dev nD) (r : Ref sig .tc) (h : ∀ w, Pipeline.arrRef spec0 w = r → (cfg0.win w).isOut = false) :
    gateLeft m c (Proc.devRef .tc r) = launched m c (Proc.devRef .tc r) :=
  Pipeline.afterRegion_keeps _ _ arr_inj0 (fun w => Gate.A_eq (fun c b => launched m c b) c w) r h

theorem between_keeps (c : Dev nD) (r : Ref sig .tc) (h : r ∉ hostOps1_W) :
    between m c (Proc.devRef .tc r) = gateLeft m c (Proc.devRef .tc r) :=
  StableHlo.after_of_writes_sub hostOps1 _ hostOps1_writes h

theorem dispatchLeft_keeps (c : Dev nD) (r : Ref sig .tc) (h : ∀ w, Pipeline.arrRef spec1 w = r → (cfg1.win w).isOut = false) :
    dispatchLeft m c (Proc.devRef .tc r) = between m c (Proc.devRef .tc r) :=
  Pipeline.afterRegion_keeps _ _ arr_inj1 (fun w => Dispatch.A_eq (fun c b => between m c b) c w) r h

theorem ending_keeps (c : Dev nD) (r : Ref sig .tc) (h : r ∉ hostOps2_W) :
    ending m c (Proc.devRef .tc r) = dispatchLeft m c (Proc.devRef .tc r) :=
  StableHlo.after_of_writes_sub hostOps2 _ hostOps2_writes h

theorem ending_arg0 (c : Dev nD) : ending m c (Proc.devRef .tc main_arg0) = m ((c.tc : Thread nD τ).loc main_arg0) :=
  (ending_keeps m c _ (by decide)).trans <| (dispatchLeft_keeps m c _ (by decide)).trans <| (between_keeps m c _ (by decide)).trans <|
    (gateLeft_keeps m c _ (by decide)).trans rfl

theorem ending_arg1 (c : Dev nD) : ending m c (Proc.devRef .tc main_arg1) = m ((c.tc : Thread nD τ).loc main_arg1) :=
  (ending_keeps m c _ (by decide)).trans <| (dispatchLeft_keeps m c _ (by decide)).trans <| (between_keeps m c _ (by decide)).trans <|
    (gateLeft_keeps m c _ (by decide)).trans rfl

/-- The arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Idealize.ShloMosaic.θ_run_mono (run m ρ) (fun _ h => ⟨fun c => ⟨(h.1 c main_arg0 rfl).trans (ending_arg0 m c), (h.1 c main_arg1 rfl).trans (ending_arg1 m c)⟩, h.2⟩)

end Cert.KernelIdeal.Whole

namespace Cert.Printed

open Idealize.ShloMosaic Idealize.SL.Sem

variable {F : FTy → Type} [FloatOps F]

theorem main_eq : @Cert.Kernel.main F _ Cert.Kernel.Gen.facts = @Cert.KernelIdeal.main F _ Cert.KernelIdeal.Gen.facts := by rfl

set_option maxHeartbeats 2000000 in
theorem bodies_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l x
  match l, x with
  | ⟨0, _⟩, (t, s) => rfl
  | ⟨1, _⟩, (t, s) => rfl

theorem defs_eq : @Cert.Kernel.defs F _ Cert.Kernel.Gen.facts = @Cert.KernelIdeal.defs F _ Cert.KernelIdeal.Gen.facts := by
  unfold Cert.Kernel.defs Cert.KernelIdeal.defs; rw [bodies_eq]; rfl

end Cert.Printed

namespace Cert.Proof

open Idealize.ShloMosaic Idealize.SL.Sem

theorem kernel_frame : quiescent_Kernel (hKernel := Cert.Kernel.Gen.facts) := by
  intro m g _
  have h := Cert.KernelIdeal.Whole.frame (F := Bits) m g
  rw [Printed.defs_eq, Printed.main_eq]
  exact h

theorem kernelIdeal_frame : quiescent_KernelIdeal (hKernelIdeal := Cert.KernelIdeal.Gen.facts) :=
  fun m g _ => Cert.KernelIdeal.Whole.frame (F := Ideal) m g

end Cert.Proof

end
-- ==== Proof.Model.lean ====
/-
  The gate in plain terms, on the extended reals: a token's gates from its logits, its expert, its place among the
  tokens of that expert, and the facts about them that both programs' values are reduced to.
-/
module

public import Idealize.ShloMosaic.PureOps.Ideal
public import Mathlib.Algebra.Order.BigOperators.Group.Finset

@[expose] public section

noncomputable section

namespace Cert.MoE

open Idealize.ShloMosaic

/-! ## A token's gates -/

/-- The largest of 64 values, -/
def top (v : Fin 64 → EReal) : EReal := Finset.univ.fold max ⊥ v

/-- the exponential of each, the largest taken off, -/
def lifted (v : Fin 64 → EReal) (e : Fin 64) : EReal := Ideal.exp (v e - top v)

/-- and its share of the sum. -/
def share (v : Fin 64 → EReal) (e : Fin 64) : EReal := Ideal.div (lifted v e) (∑ k, lifted v k)

theorem val_le_top (v : Fin 64 → EReal) (e : Fin 64) : v e ≤ top v :=
  show v e ≤ Finset.univ.sup v from Finset.le_sup (Finset.mem_univ e)

theorem exists_top (v : Fin 64 → EReal) : ∃ e, v e = top v := by
  obtain ⟨e, -, h⟩ := Finset.exists_mem_eq_sup Finset.univ Finset.univ_nonempty v
  exact ⟨e, h.symm⟩

/-- `e` is the first place of the largest value. -/
def IsFirst (v : Fin 64 → EReal) (e : Fin 64) : Prop := v e = top v ∧ ∀ k, v k = top v → e ≤ k

theorem exists_first (v : Fin 64 → EReal) : ∃ e, IsFirst v e := by
  classical
  have hne : (Finset.univ.filter fun k => v k = top v).Nonempty := by
    obtain ⟨e, h⟩ := exists_top v
    exact ⟨e, Finset.mem_filter.2 ⟨Finset.mem_univ _, h⟩⟩
  refine ⟨(Finset.univ.filter fun k => v k = top v).min' hne, (Finset.mem_filter.1 (Finset.min'_mem _ hne)).2, fun k hk => ?_⟩
  exact Finset.min'_le _ k (Finset.mem_filter.2 ⟨Finset.mem_univ _, hk⟩)

/-- The first place of the largest value. -/
def first (v : Fin 64 → EReal) : Fin 64 := Classical.choose (exists_first v)

theorem first_isFirst (v : Fin 64 → EReal) : IsFirst v (first v) := Classical.choose_spec (exists_first v)

theorem eq_first {v : Fin 64 → EReal} {e : Fin 64} (h : IsFirst v e) : e = first v :=
  le_antisymm (h.2 _ (first_isFirst v).1) ((first_isFirst v).2 _ h.1)

theorem exp_nonneg (x : EReal) : 0 ≤ Ideal.exp x := by
  induction x with
  | bot => exact le_refl _
  | top => exact le_top
  | coe r => exact EReal.coe_nonneg.2 (Real.exp_pos r).le

theorem lifted_nonneg (v : Fin 64 → EReal) (e : Fin 64) : 0 ≤ lifted v e := exp_nonneg _

/-- The largest share is never zero: it is the inverse of a positive real where the largest value is a real, and `⊥`
    where it is infinite. -/
theorem top_share_ne_zero (v : Fin 64 → EReal) : top (share v) ≠ 0 := by
  by_cases hinf : top v = ⊤ ∨ top v = ⊥
  · have hl : ∀ e, lifted v e = 0 := by
      intro e
      have hs : v e - top v = ⊥ := by
        rcases hinf with h | h
        · rw [h]; exact EReal.sub_top _
        · have := val_le_top v e
          rw [h, le_bot_iff] at this
          rw [this]; exact EReal.bot_sub _
      unfold lifted
      rw [hs]; rfl
    obtain ⟨e, he⟩ := exists_top (share v)
    rw [← he]
    unfold share
    rw [hl, Finset.sum_congr rfl fun k _ => hl k, Finset.sum_const_zero]
    unfold Ideal.div
    simp
  · rw [not_or] at hinf
    obtain ⟨e, he⟩ := exists_top v
    have hfin : ∀ k, lifted v k ≠ ⊤ := by
      intro k
      have hk : v k ≠ ⊤ := fun h => hinf.1 (top_le_iff.1 (h ▸ val_le_top v k))
      unfold lifted
      generalize top v = m at hinf
      induction m with
      | bot => exact absurd rfl hinf.2
      | top => exact absurd rfl hinf.1
      | coe r =>
        generalize v k = y at hk
        induction y with
        | bot => rw [EReal.bot_sub]; exact EReal.zero_ne_top
        | top => exact absurd rfl hk
        | coe s => rw [← EReal.coe_sub]; exact EReal.coe_ne_top _
    have hone : lifted v e = 1 := by
      unfold lifted
      rw [he, EReal.sub_self hinf.1 hinf.2]
      show ((Real.exp 0 : ℝ) : EReal) = 1
      rw [Real.exp_zero]; rfl
    have hsum : (1 : EReal) ≤ ∑ k, lifted v k := hone ▸
      Finset.single_le_sum (f := lifted v) (fun k _ => lifted_nonneg v k) (Finset.mem_univ e)
    have hpos : (0 : EReal) < ∑ k, lifted v k := lt_of_lt_of_le zero_lt_one hsum
    have hnt : ∑ k, lifted v k ≠ ⊤ := by
      refine Finset.sum_induction (lifted v) (fun a => a ≠ ⊤) (fun a b ha hb => ?_) EReal.zero_ne_top fun k _ => hfin k
      exact EReal.add_ne_top ha hb
    have hsh : 0 < share v e := by
      unfold share Ideal.div
      rw [if_neg hpos.ne', hone, one_mul]
      exact EReal.inv_pos_of_pos_ne_top hpos hnt
    exact (lt_of_lt_of_le hsh (val_le_top _ e)).ne'

/-! ## The tokens -/

/-- The logits, -/
def logit (x : Fin 4096 → Fin 4096 → EReal) (w : Fin 64 → Fin 4096 → EReal) (t : Fin 4096) (e : Fin 64) : EReal :=
  ∑ k, x t k * w e k

/-- the gates. -/
def gate (x : Fin 4096 → Fin 4096 → EReal) (w : Fin 64 → Fin 4096 → EReal) (t : Fin 4096) : Fin 64 → EReal :=
  share (logit x w t)

/-! ## Places and counts -/

/-- How many of the first `n` tokens go to `e`. -/
def upto (c : Fin 4096 → Fin 64) (n : ℕ) (e : Fin 64) : ℕ := (Finset.univ.filter fun t : Fin 4096 => t.val < n ∧ c t = e).card

/-- A token's place among its expert's. -/
def place (c : Fin 4096 → Fin 64) (t : Fin 4096) : ℕ := upto c t.val (c t)

/-- Where a token goes: its row in the table of experts and places, if its expert still has room. -/
def goal (c : Fin 4096 → Fin 64) (t : Fin 4096) : BitVec 32 :=
  if place c t < 64 then BitVec.ofNat 32 ((c t).val * 64 + place c t) else 4294967295#32

theorem upto_le (c : Fin 4096 → Fin 64) (n : ℕ) (e : Fin 64) : upto c n e ≤ 4096 :=
  (Finset.card_le_univ _).trans (by simp)

theorem upto_mono (c : Fin 4096 → Fin 64) {m n : ℕ} (h : m ≤ n) (e : Fin 64) : upto c m e ≤ upto c n e :=
  Finset.card_le_card fun t ht => by
    simp only [Finset.mem_filter, Finset.mem_univ, true_and] at ht ⊢
    exact ⟨by omega, ht.2⟩

theorem upto_zero (c : Fin 4096 → Fin 64) (e : Fin 64) : upto c 0 e = 0 := by
  unfold upto; simp

theorem upto_succ (c : Fin 4096 → Fin 64) (t : Fin 4096) (e : Fin 64) :
    upto c (t.val + 1) e = upto c t.val e + if c t = e then 1 else 0 := by
  classical
  unfold upto
  by_cases h : c t = e
  · have : (Finset.univ.filter fun s : Fin 4096 => s.val < t.val + 1 ∧ c s = e)
        = insert t (Finset.univ.filter fun s : Fin 4096 => s.val < t.val ∧ c s = e) := by
      ext s
      simp only [Finset.mem_filter, Finset.mem_univ, true_and, Finset.mem_insert]
      constructor
      · rintro ⟨h1, h2⟩
        by_cases hs : s = t
        · exact Or.inl hs
        · have : s.val ≠ t.val := fun q => hs (Fin.ext q)
          exact Or.inr ⟨by omega, h2⟩
      · rintro (rfl | ⟨h1, h2⟩)
        · exact ⟨by omega, h⟩
        · exact ⟨by omega, h2⟩
    rw [this, Finset.card_insert_of_notMem (by simp), if_pos h]
  · rw [if_neg h]
    refine (congrArg Finset.card (Finset.ext fun s => ?_)).trans (Nat.add_zero _).symm
    simp only [Finset.mem_filter, Finset.mem_univ, true_and]
    constructor
    · rintro ⟨h1, h2⟩
      have : s.val ≠ t.val := fun q => h (Fin.ext q ▸ h2)
      exact ⟨by omega, h2⟩
    · rintro ⟨h1, h2⟩
      exact ⟨by omega, h2⟩

/-- Two tokens of one expert have different places: the earlier the smaller. -/
theorem place_lt (c : Fin 4096 → Fin 64) {s t : Fin 4096} (h : s < t) (hc : c s = c t) : place c s < place c t := by
  unfold place
  have h1 := upto_succ c s (c s)
  rw [if_pos rfl] at h1
  have h2 := upto_mono c (m := s.val + 1) (n := t.val) (by simpa using h) (c t)
  rw [hc] at h1 ⊢
  omega

theorem place_inj (c : Fin 4096 → Fin 64) {s t : Fin 4096} (hc : c s = c t) (hp : place c s = place c t) : s = t := by
  rcases lt_trichotomy s t with h | h | h
  · have := place_lt c h hc; omega
  · exact h
  · have := place_lt c h hc.symm; omega

theorem place_le (c : Fin 4096 → Fin 64) (t : Fin 4096) : place c t ≤ 4096 := upto_le _ _ _

/-- The row a token is sent to tells its expert and its place. -/
theorem goal_eq_iff (c : Fin 4096 → Fin 64) (t : Fin 4096) (e s : Fin 64) :
    goal c t = BitVec.ofNat 32 (e.val * 64 + s.val) ↔ c t = e ∧ place c t = s.val := by
  have he := e.isLt
  have hs := s.isLt
  have hc := (c t).isLt
  unfold goal
  constructor
  · intro h
    split at h
    · next hp =>
      have := congrArg BitVec.toNat h
      simp only [BitVec.toNat_ofNat] at this
      rw [Nat.mod_eq_of_lt (by omega), Nat.mod_eq_of_lt (by omega)] at this
      exact ⟨Fin.ext (by omega), by omega⟩
    · have := congrArg BitVec.toNat h
      simp only [BitVec.toNat_ofNat] at this
      rw [Nat.mod_eq_of_lt (by omega), Nat.mod_eq_of_lt (by omega)] at this
      omega
  · rintro ⟨rfl, hp⟩
    rw [if_pos (by omega), hp]

/-! ## The auxiliary loss -/

theorem sum_mul_const {ι : Type} (s : Finset ι) (f : ι → EReal) {k : ℝ} (hk : 0 ≤ k) :
    (∑ i ∈ s, f i) * (k : EReal) = ∑ i ∈ s, f i * (k : EReal) := by
  classical
  induction s using Finset.induction_on with
  | empty => simp
  | insert a s ha ih =>
    rw [Finset.sum_insert ha, Finset.sum_insert ha,
      EReal.right_distrib_of_nonneg_of_ne_top (EReal.coe_nonneg.2 hk) (EReal.coe_ne_top k), ih]

/-- The mean gates against the mean counts, 64 times over, is the gates' sums against the counts over `2¹⁸`. -/
theorem loss_eq (g n : Fin 64 → EReal) :
    (∑ e, g e * ((1 / 4096 : ℝ) : EReal) * (n e * ((1 / 4096 : ℝ) : EReal))) * ((64 : ℝ) : EReal)
      = (∑ e, n e * g e) * ((1 / 262144 : ℝ) : EReal) := by
  rw [sum_mul_const _ _ (by norm_num), sum_mul_const _ _ (by norm_num)]
  refine Finset.sum_congr rfl fun e _ => ?_
  have hk : ((1 / 262144 : ℝ) : EReal) = ((1 / 4096 : ℝ) : EReal) * ((1 / 4096 : ℝ) : EReal) * ((64 : ℝ) : EReal) := by
    rw [← EReal.coe_mul, ← EReal.coe_mul]; norm_num
  rw [hk, mul_mul_mul_comm, mul_comm (g e) (n e), mul_assoc (n e * g e)]

end Cert.MoE

end
-- ==== Proof.Reading.lean ====
/-
  Reading a table's rows and columns: the index a reduction over one axis of a table inserts, and the reductions the
  two programs take, as sums, largest values and counts over that axis.
-/
module

public import Idealize.ShloMosaic.Lib.KernelVsHost
public import Idealize.ShloMosaic.Lib.IndicatorCount
public import Idealize.ShloMosaic.Lib.ValueIdx
public import Idealize.ShloMosaic.Lib.Routing.Ops
public import Idealize.ShloMosaic.Lib.MatmulPlain
public import Idealize.ShloMosaic.Lib.ValueLayout
public import Idealize.ShloMosaic.Lib.WordCmp
public import proofs.«01_k».proof.Proof.Model

@[expose] public section

noncomputable section

namespace Cert.MoE

open Idealize.ShloMosaic Idealize.ShloMosaic.ValueIdx

abbrev vec (n : ℕ) : Shape := ⟨1, ![n]⟩
abbrev tab (a b : ℕ) : Shape := ⟨2, ![a, b]⟩

/-- An array's value at an index in two coordinates that agree with it. -/
theorem at2 {α : Type} {a b : ℕ} (x : (tab a b).Idx → α) (i : (tab a b).Idx) (p : Fin a) (q : Fin b)
    (h0 : (i 0).val = p.val) (h1 : (i 1).val = q.val) : x i = x (ix2 p q) :=
  congrArg x (funext fun c => Fin.ext (match c with | ⟨0, _⟩ => h0 | ⟨1, _⟩ => h1))

theorem lift_row {a b : ℕ} (h : (tab a b).Reduces [1] (vec a)) (t : Fin a) (k : Fin b) : h.lift (ix1 t) k = ix2 t k :=
  funext fun c => Fin.ext (match c with | ⟨0, _⟩ => rfl | ⟨1, _⟩ => rfl)

theorem lift_col {a b : ℕ} (h : (tab a b).Reduces [0] (vec b)) (t : Fin b) (k : Fin a) : h.lift (ix1 t) k = ix2 k t :=
  funext fun c => Fin.ext (match c with | ⟨0, _⟩ => rfl | ⟨1, _⟩ => rfl)

/-! ## Sums -/

theorem hostSum_row {a b : ℕ} {u : Shape} (x : FVec Ideal (tab a b) .f32) (init : FVec Ideal u .f32) (h' : (tab a b).ReducesTo [1] (vec a))
    (hu : 0 < u.numel) (h : (tab a b).Reduces [1] (vec a)) (h0 : init (Shape.Idx.first hu) = 0) (t : Fin a) :
    Host.reduceAdd x init h' hu (ix1 t) = ∑ k : Fin b, x (ix2 t k) := by
  show Ideal.hostReduceAdd h' x (init (Shape.Idx.first hu)) (ix1 t) = _
  rw [h0, Ideal.hostReduceAdd_single h' h, zero_add]
  exact Finset.sum_congr rfl fun k _ => congrArg x (lift_row h t k)

theorem hostSum_col {a b : ℕ} {u : Shape} (x : FVec Ideal (tab a b) .f32) (init : FVec Ideal u .f32) (h' : (tab a b).ReducesTo [0] (vec b))
    (hu : 0 < u.numel) (h : (tab a b).Reduces [0] (vec b)) (h0 : init (Shape.Idx.first hu) = 0) (t : Fin b) :
    Host.reduceAdd x init h' hu (ix1 t) = ∑ k : Fin a, x (ix2 k t) := by
  show Ideal.hostReduceAdd h' x (init (Shape.Idx.first hu)) (ix1 t) = _
  rw [h0, Ideal.hostReduceAdd_single h' h, zero_add]
  exact Finset.sum_congr rfl fun k _ => congrArg x (lift_col h t k)

theorem sum_row {a b : ℕ} (x : FVec Ideal (tab a b) .f32) (acc : BitVec 32) (h : (tab a b).Reduces [1] (vec a))
    (hφ : FKind.Formats .f32) (hacc : acc = FKind.add.neutral .f32 hφ) (t : Fin a) :
    multiReduction .add [1] (vec a) x acc h hφ hacc (ix1 t) = ∑ k : Fin b, x (ix2 t k) :=
  (Ideal.multiReduction_add_single x acc h hφ hacc (ix1 t)).trans (Finset.sum_congr rfl fun k _ => congrArg x (lift_row h t k))

theorem sum_col {a b : ℕ} (x : FVec Ideal (tab a b) .f32) (acc : BitVec 32) (h : (tab a b).Reduces [0] (vec b))
    (hφ : FKind.Formats .f32) (hacc : acc = FKind.add.neutral .f32 hφ) (t : Fin b) :
    multiReduction .add [0] (vec b) x acc h hφ hacc (ix1 t) = ∑ k : Fin a, x (ix2 k t) :=
  (Ideal.multiReduction_add_single x acc h hφ hacc (ix1 t)).trans (Finset.sum_congr rfl fun k _ => congrArg x (lift_col h t k))

/-! ## Largest values -/

theorem ofBits_ninf : Ideal.ofBits .f32 0xFF800000#32 = ⊥ := by simp [Ideal.ofBits, Ideal.ieee]

theorem max_col {b : ℕ} (x : FVec Ideal (tab 64 b) .f32) (h : (tab 64 b).Reduces [0] (vec b))
    (hφ : FKind.Formats .f32) (hacc : (0xFF800000#32 : BitVec 32) = FKind.maximumf.neutral .f32 hφ) (t : Fin b) :
    multiReduction .maximumf [0] (vec b) x 0xFF800000#32 h hφ hacc (ix1 t) = top fun e => x (ix2 e t) := by
  refine (Ideal.multiReduction_maximumf_single x _ h hφ hacc (ix1 t)).trans ?_
  have h1 : (FloatOps.ofBits .f32 0xFF800000#32 : Ideal .f32) = ⊥ := ofBits_ninf
  have h2 : x ∘ h.lift (ix1 t) = fun e : Fin 64 => x (ix2 e t) := funext fun e => congrArg x (lift_col h t e)
  rw [h1]
  exact congrArg (fun f => Finset.univ.fold max ⊥ f) h2

theorem hostMax_row {a : ℕ} {u : Shape} (x : FVec Ideal (tab a 64) .f32) (init : FVec Ideal u .f32) (h' : (tab a 64).ReducesTo [1] (vec a))
    (hu : 0 < u.numel) (h : (tab a 64).Reduces [1] (vec a)) (h0 : init (Shape.Idx.first hu) = ⊥) (t : Fin a) :
    Host.reduce FloatOps.maximumf x init h' hu (ix1 t) = top fun e => x (ix2 t e) := by
  rw [Host.reduce_eq_fold_single _ _ _ h' h, h0]
  exact congrArg (fun f => Finset.univ.fold max ⊥ f) (funext fun e : Fin 64 => congrArg x (lift_row h t e))

/-! ## Sums of words -/

theorem hostWords_row {a b : ℕ} {u : Shape} (x : IVec (tab a b) 32) (init : IVec u 32) (h' : (tab a b).ReducesTo [1] (vec a))
    (hu : 0 < u.numel) (h : (tab a b).Reduces [1] (vec a)) (t : Fin a) :
    Host.reduce IntOp.addi x init h' hu (ix1 t)
      = (Finset.univ : Finset (Fin b)).fold IntOp.addi (init (Shape.Idx.first hu)) fun k => x (ix2 t k) := by
  rw [Host.reduce_eq_fold_single _ _ _ h' h]
  exact congrArg (fun f => Finset.univ.fold IntOp.addi _ f) (funext fun e : Fin b => congrArg x (lift_row h t e))

theorem hostWords_col {a b : ℕ} {u : Shape} (x : IVec (tab a b) 32) (init : IVec u 32) (h' : (tab a b).ReducesTo [0] (vec b))
    (hu : 0 < u.numel) (h : (tab a b).Reduces [0] (vec b)) (t : Fin b) :
    Host.reduce IntOp.addi x init h' hu (ix1 t)
      = (Finset.univ : Finset (Fin a)).fold IntOp.addi (init (Shape.Idx.first hu)) fun k => x (ix2 k t) := by
  rw [Host.reduce_eq_fold_single _ _ _ h' h]
  exact congrArg (fun f => Finset.univ.fold IntOp.addi _ f) (funext fun e : Fin a => congrArg x (lift_col h t e))

/-- The sum of a word that is nonzero at one place only. -/
theorem fold_only {ι : Type} [DecidableEq ι] [Fintype ι] (i : ι) (v : BitVec 32) :
    (Finset.univ : Finset ι).fold IntOp.addi 0#32 (fun k => if k = i then v else 0#32) = v := by
  have key : ∀ s : Finset ι, s.fold IntOp.addi 0#32 (fun k => if k = i then v else 0#32) = if i ∈ s then v else 0#32 := by
    intro s
    induction s using Finset.induction_on with
    | empty => rfl
    | insert a s ha ih =>
      rw [Finset.fold_insert ha, ih]
      by_cases h : a = i
      · subst h
        rw [if_pos rfl, if_neg ha, if_pos (Finset.mem_insert_self _ _)]
        show v + 0#32 = v
        simp
      · rw [if_neg h]
        have : (i ∈ insert a s) ↔ i ∈ s := by
          rw [Finset.mem_insert]; exact ⟨fun q => q.resolve_left fun r => h r.symm, Or.inr⟩
        simp only [this]
        show 0#32 + _ = _
        simp
  rw [key, if_pos (Finset.mem_univ i)]

/-- The sum of ones where a predicate holds is the count. -/
theorem fold_count {ι : Type} (p : ι → Prop) [DecidablePred p] (s : Finset ι) :
    s.fold IntOp.addi 0#32 (fun k => if p k then 1#32 else 0#32) = BitVec.ofNat 32 (s.filter p).card := by
  have h := Idealize.ShloMosaic.IndicatorCount.fold_addi_setWidth_eq_card (w := 32) (fun k => if p k then 1#1 else 0#1) s
  have e1 : (fun k => (if p k then 1#1 else 0#1 : BitVec 1).setWidth 32) = fun k => if p k then 1#32 else 0#32 :=
    funext fun k => by split <;> rfl
  have e2 : (s.filter fun k => (if p k then 1#1 else 0#1 : BitVec 1) = 1#1) = s.filter p :=
    Finset.filter_congr fun k _ => by by_cases q : p k <;> simp [q]
  rw [e1, e2] at h
  exact h

/-! ## Reals -/

/-- The sum of ones where a predicate holds is the count, as a real. -/
theorem sum_count {ι : Type} (p : ι → Prop) [DecidablePred p] (s : Finset ι) :
    (∑ k ∈ s, if p k then (1 : EReal) else 0) = (((s.filter p).card : ℝ) : EReal) := by
  rw [Finset.sum_boole]; rfl

end Cert.MoE

end
-- ==== Proof.GateValues.lean ====
/-
  The first call's payloads at an index, in plain terms: a block's gates, its tokens' experts, their places and goals.
-/
module

public import proofs.«01_k».proof.Proof.Gen.KernelIdeal.Skeleton
public import proofs.«01_k».proof.Proof.Reading

@[expose] public section

set_option maxRecDepth 8192

noncomputable section

namespace Cert.KernelIdeal.Gate

open Cert.KernelIdeal Cert.KernelIdeal.Gen Cert.MoE Idealize.ShloMosaic Idealize.ShloMosaic.ValueIdx

/-! ## Layout -/

theorem row_of_vec {α : Type} {n : ℕ} (x : (vec n).Idx → α) (h : (vec n).ShapeCasts (tab 1 n)) (r : Fin n) :
    shapeCast (tab 1 n) x h (ix2 (0 : Fin 1) r) = x (ix1 r) :=
  Routing.cast12 x h 0 r r (by simp)

theorem col_of_vec {α : Type} {n : ℕ} (x : (vec n).Idx → α) (h : (vec n).ShapeCasts (tab n 1)) (e : Fin n) :
    shapeCast (tab n 1) x h (ix2 e (0 : Fin 1)) = x (ix1 e) :=
  Routing.cast12 x h e 0 e (by simp)

theorem same_shape {α : Type} {s : Shape} (x : s.Idx → α) (h : s.ShapeCasts s) (i : s.Idx) : shapeCast s x h i = x i :=
  shapeCast_apply x h i i rfl

theorem deep_row {α : Type} {n : ℕ} (x : (tab 1 n).Idx → α) (h : (tab 1 n).ShapeCasts ⟨3, ![1, 1, n]⟩) (r : Fin n) :
    shapeCast ⟨3, ![1, 1, n]⟩ x h (ix3 (0 : Fin 1) (0 : Fin 1) r) = x (ix2 (0 : Fin 1) r) := by
  refine shapeCast_apply x h _ _ ?_
  rw [Shape.rowMajor_val_two, Shape.rowMajor_val_three]
  show 0 * n + r.val = (0 * 1 + 0) * n + r.val
  simp

theorem over_rows {α : Type} {a b : ℕ} (x : (tab 1 b).Idx → α) (h : (tab 1 b).Broadcasts (tab a b)) (e : Fin a) (r : Fin b) :
    broadcastTo (tab a b) x h (ix2 e r) = x (ix2 (0 : Fin 1) r) := by
  refine broadcastTo_apply x h _ _ fun c => ?_
  match c with
  | ⟨0, _⟩ => rfl
  | ⟨1, _⟩ =>
    show r.val = if b = 1 then 0 else r.val
    have := r.isLt
    split <;> omega

theorem over_cols {α : Type} {a b : ℕ} (x : (tab a 1).Idx → α) (h : (tab a 1).Broadcasts (tab a b)) (e : Fin a) (r : Fin b) :
    broadcastTo (tab a b) x h (ix2 e r) = x (ix2 e (0 : Fin 1)) := by
  refine broadcastTo_apply x h _ _ fun c => ?_
  match c with
  | ⟨0, _⟩ =>
    show e.val = if a = 1 then 0 else e.val
    have := e.isLt
    split <;> omega
  | ⟨1, _⟩ => rfl

/-! ## A block's gates -/

/-- The gates of the block's token `r`. -/
def rowGate (x : FVec Ideal S512x4096 .f32) (w : FVec Ideal S64x4096 .f32) (r : Fin 512) : Fin 64 → EReal :=
  share fun e => ∑ k : Fin 4096, x (ix2 r k) * w (ix2 e k)

def scores (x : FVec Ideal S512x4096 .f32) (w : FVec Ideal S64x4096 .f32) : FVec Ideal S64x512 .f32 :=
  matmul dot_S64x4096_S512x4096_S64x512_1_1_0_0_n_n none w x (constant S64x512 .f32 0x00000000#32)

def over (v : FVec Ideal S512 .f32) : FVec Ideal S64x512 .f32 :=
  broadcastTo S64x512 (shapeCast S1x512 v shapeCasts_S512_S1x512) broadcasts_S1x512_S64x512

def exps (l : FVec Ideal S64x512 .f32) : FVec Ideal S64x512 .f32 :=
  exp (subf l (over (multiReduction .maximumf [0] S512 l 0xFF800000#32 reduces_S64x512_S512 (.inl rfl) rfl)))

theorem over_at (v : FVec Ideal S512 .f32) (e : Fin 64) (r : Fin 512) : over v (ix2 e r) = v (ix1 r) :=
  (over_rows _ broadcasts_S1x512_S64x512 e r).trans (row_of_vec v shapeCasts_S512_S1x512 r)

theorem pay8_eq (x : FVec Ideal S512x4096 .f32) (w : FVec Ideal S64x4096 .f32) :
    k0_pay8 (F := Ideal) x w = divf (exps (scores x w)) (over (multiReduction .add [0] S512 (exps (scores x w)) 0x00000000#32 reduces_S64x512_S512 (.inl rfl) rfl)) := rfl

theorem scores_at (x : FVec Ideal S512x4096 .f32) (w : FVec Ideal S64x4096 .f32) (e : Fin 64) (r : Fin 512) :
    scores x w (ix2 e r) = ∑ k : Fin 4096, x (ix2 r k) * w (ix2 e k) := by
  unfold scores
  refine (Ideal.matmul_transposedRhs_apply (M := 64) (K := 4096) (N := 512) none w x _ e r).trans ?_
  have h0 : (constant S64x512 .f32 0x00000000#32 : FVec Ideal S64x512 .f32) (ix2 e r) = 0 := Ideal.ofBits_zero_f32
  rw [h0, zero_add]
  exact Finset.sum_congr rfl fun k _ => mul_comm _ _

theorem exps_at (l : FVec Ideal S64x512 .f32) (e : Fin 64) (r : Fin 512) : exps l (ix2 e r) = lifted (fun k => l (ix2 k r)) e := by
  exact congrArg (fun m : EReal => Ideal.exp (l (ix2 e r) - m)) ((over_at _ e r).trans (max_col l reduces_S64x512_S512 (.inl rfl) rfl r))

/-- A block's gates, by expert and row. -/
theorem pay8_at (x : FVec Ideal S512x4096 .f32) (w : FVec Ideal S64x4096 .f32) (e : Fin 64) (r : Fin 512) :
    k0_pay8 (F := Ideal) x w (ix2 e r) = rowGate x w r e := by
  have h : (fun k => scores x w (ix2 k r)) = fun e => ∑ k : Fin 4096, x (ix2 r k) * w (ix2 e k) := funext fun k => scores_at x w k r
  have h1 : ∀ k, exps (scores x w) (ix2 k r) = lifted (fun e => ∑ k : Fin 4096, x (ix2 r k) * w (ix2 e k)) k :=
    fun k => (exps_at _ k r).trans (congrArg (lifted · k) h)
  rw [pay8_eq]
  refine (congrArg₂ Ideal.div (h1 e) ((over_at _ e r).trans (sum_col (exps (scores x w)) _ reduces_S64x512_S512 (.inl rfl) rfl r))).trans ?_
  exact congrArg (Ideal.div _) (Finset.sum_congr rfl fun k _ => h1 k)

theorem pay9_eq (x : FVec Ideal S512x4096 .f32) (w : FVec Ideal S64x4096 .f32) :
    k0_pay9 (F := Ideal) x w = shapeCast S1x512 (multiReduction .maximumf [0] S512 (k0_pay8 (F := Ideal) x w) 0xFF800000#32 reduces_S64x512_S512 (.inl rfl) rfl) shapeCasts_S512_S1x512 := rfl

/-- A row's largest gate. -/
theorem pay9_at (x : FVec Ideal S512x4096 .f32) (w : FVec Ideal S64x4096 .f32) (r : Fin 512) :
    k0_pay9 (F := Ideal) x w (ix2 (0 : Fin 1) r) = top (rowGate x w r) := by
  rw [pay9_eq]
  refine (row_of_vec _ shapeCasts_S512_S1x512 r).trans ((max_col (k0_pay8 (F := Ideal) x w) reduces_S64x512_S512 (.inl rfl) rfl r).trans ?_)
  exact congrArg top (funext fun e => pay8_at x w e r)

/-! ## A block's experts -/

/-- The least word at the places of the largest value is its first place. -/
theorem fold_first (v : Fin 64 → EReal) :
    (Finset.univ : Finset (Fin 64)).fold IntOp.minsi 2147483647#32 (fun e => if v e = top v then BitVec.ofNat 32 e.val else 64#32)
      = BitVec.ofNat 32 (first v).val := by
  have step : ∀ a b : ℕ, a < 2 ^ 31 → b < 2 ^ 31 → IntOp.minsi (BitVec.ofNat 32 a) (BitVec.ofNat 32 b) = BitVec.ofNat 32 (min a b) := by
    intro a b ha hb
    have h : (BitVec.ofNat 32 a).slt (BitVec.ofNat 32 b) = decide (a < b) := by
      have := WordCmp.cmpi_slt_ofNat (w := 32) ha hb
      revert this
      show BitVec.ofBool ((BitVec.ofNat 32 a).slt (BitVec.ofNat 32 b)) = _ → _
      cases (BitVec.ofNat 32 a).slt (BitVec.ofNat 32 b) <;> cases decide (a < b) <;> simp
    unfold IntOp.minsi
    rw [h]
    by_cases q : a < b
    · rw [if_pos (by simpa using q), min_eq_left q.le]
    · rw [if_neg (by simpa using q), min_eq_right (not_lt.1 q)]
  let a : Fin 64 → ℕ := fun e => if v e = top v then e.val else 64
  have ha : ∀ e, a e ≤ 64 := fun e => by
    show (if v e = top v then e.val else 64) ≤ 64
    have := e.isLt
    split <;> omega
  have hf : (fun e : Fin 64 => if v e = top v then BitVec.ofNat 32 e.val else 64#32) = fun e => BitVec.ofNat 32 (a e) :=
    funext fun e => by
      show _ = BitVec.ofNat 32 (if v e = top v then e.val else 64)
      split <;> rfl
  have key : ∀ S : Finset (Fin 64), ∃ m : ℕ, m < 2 ^ 31 ∧ S.fold IntOp.minsi 2147483647#32 (fun e => BitVec.ofNat 32 (a e)) = BitVec.ofNat 32 m
      ∧ (∀ e ∈ S, m ≤ a e) ∧ (m = 2147483647 ∨ ∃ e ∈ S, m = a e) := by
    intro S
    induction S using Finset.induction_on with
    | empty => exact ⟨2147483647, by norm_num, rfl, by simp, Or.inl rfl⟩
    | insert b S hb ih =>
      obtain ⟨m, hm, h1, h2, h3⟩ := ih
      have hab := ha b
      refine ⟨min (a b) m, by omega, ?_, ?_, ?_⟩
      · rw [Finset.fold_insert hb, h1, step _ _ (by omega) hm]
      · intro e he
        rcases Finset.mem_insert.1 he with rfl | he
        · exact min_le_left _ _
        · exact (min_le_right _ _).trans (h2 e he)
      · rcases le_total (a b) m with q | q
        · exact Or.inr ⟨b, Finset.mem_insert_self _ _, min_eq_left q⟩
        · rw [min_eq_right q]
          exact h3.imp_right fun ⟨e, he, h⟩ => ⟨e, Finset.mem_insert_of_mem he, h⟩
  obtain ⟨m, -, h1, h2, h3⟩ := key Finset.univ
  rw [hf, h1]
  obtain ⟨g1, g2⟩ := first_isFirst v
  have hg : m ≤ (first v).val := (h2 (first v) (Finset.mem_univ _)).trans (le_of_eq (if_pos g1))
  have hl := (first v).isLt
  rcases h3 with h3 | ⟨e, -, h3⟩
  · omega
  · have h3' : m = if v e = top v then e.val else 64 := h3
    split at h3'
    · next q =>
      have : (first v).val ≤ e.val := g2 e q
      exact congrArg _ (by omega)
    · omega

theorem minWords_col {b : ℕ} (x : IVec (tab 64 b) 32) (h : (tab 64 b).Reduces [0] (vec b)) (hacc : (2147483647#32 : BitVec 32) = IKind.minsi.neutral) (r : Fin b) :
    multiReductionI .minsi [0] (vec b) x 2147483647#32 h hacc (ix1 r)
      = (Finset.univ : Finset (Fin 64)).fold IntOp.minsi 2147483647#32 fun e => x (ix2 e r) := by
  rw [multiReductionI_eq_fold]
  refine (h.fold_filter_drop_single _ _ x (ix1 r)).trans ?_
  exact congrArg (fun f => (Finset.univ : Finset (Fin 64)).fold IntOp.minsi 2147483647#32 f) (funext fun e : Fin 64 => congrArg x (lift_col h r e))

/-- The expert of the block's token `r`. -/
def rowExpert (x : FVec Ideal S512x4096 .f32) (w : FVec Ideal S64x4096 .f32) (r : Fin 512) : Fin 64 := first (rowGate x w r)

def firstWords (x : FVec Ideal S512x4096 .f32) (w : FVec Ideal S64x4096 .f32) : IVec S64x512 32 :=
  select (cmpf .oeq (k0_pay8 (F := Ideal) x w) (broadcastTo S64x512 (k0_pay9 (F := Ideal) x w) broadcasts_S1x512_S64x512))
    (iota .tc S64x512 32 [0] iota_S64x512_d0_w32) (broadcast S64x512 64#32)

theorem firstWords_at (x : FVec Ideal S512x4096 .f32) (w : FVec Ideal S64x4096 .f32) (e : Fin 64) (r : Fin 512) :
    firstWords x w (ix2 e r) = if rowGate x w r e = top (rowGate x w r) then BitVec.ofNat 32 e.val else 64#32 := by
  have h := (over_rows (k0_pay9 (F := Ideal) x w) broadcasts_S1x512_S64x512 e r).trans (pay9_at x w r)
  have h' := pay8_at x w e r
  show (if BitVec.ofBool (decide (k0_pay8 (F := Ideal) x w (ix2 e r) = broadcastTo S64x512 (k0_pay9 (F := Ideal) x w) broadcasts_S1x512_S64x512 (ix2 e r))) = 1#1 then
    iota .tc S64x512 32 [0] iota_S64x512_d0_w32 (ix2 e r) else 64#32) = _
  have h3 : (k0_pay8 (F := Ideal) x w (ix2 e r) = broadcastTo S64x512 (k0_pay9 (F := Ideal) x w) broadcasts_S1x512_S64x512 (ix2 e r)) ↔ rowGate x w r e = top (rowGate x w r) :=
    Iff.of_eq (congrArg₂ (fun a b : EReal => a = b) h' h)
  rw [iota_single_apply]
  by_cases q : rowGate x w r e = top (rowGate x w r)
  · rw [if_pos q, if_pos (by rw [decide_eq_true (h3.2 q)]; rfl)]
  · rw [if_neg q, if_neg (by rw [decide_eq_false fun s => q (h3.1 s)]; decide)]

theorem pay10_eq (x : FVec Ideal S512x4096 .f32) (w : FVec Ideal S64x4096 .f32) :
    k0_pay10 (F := Ideal) x w = shapeCast S1x512 (multiReductionI .minsi [0] S512 (firstWords x w) 2147483647#32 reduces_S64x512_S512 rfl) shapeCasts_S512_S1x512 := rfl

/-- A row's expert, as a word. -/
theorem pay10_at (x : FVec Ideal S512x4096 .f32) (w : FVec Ideal S64x4096 .f32) (r : Fin 512) :
    k0_pay10 (F := Ideal) x w (ix2 (0 : Fin 1) r) = BitVec.ofNat 32 (rowExpert x w r).val := by
  rw [pay10_eq]
  refine (row_of_vec _ shapeCasts_S512_S1x512 r).trans ((minWords_col (firstWords x w) reduces_S64x512_S512 rfl r).trans ?_)
  exact (congrArg (fun f => Finset.fold IntOp.minsi 2147483647#32 f (Finset.univ : Finset (Fin 64)))
    (funext fun e => firstWords_at x w e r)).trans (fold_first _)

theorem flag (p : Prop) [Decidable p] : (((BitVec.ofBool (decide p)).setWidth 32).toInt : ℝ) = if p then 1 else 0 := by
  by_cases q : p <;> simp [q]

/-- One at a row's expert, zero elsewhere. -/
theorem pay11_at (x : FVec Ideal S512x4096 .f32) (w : FVec Ideal S64x4096 .f32) (e : Fin 64) (r : Fin 512) :
    k0_pay11 (F := Ideal) x w (ix2 e r) = if rowExpert x w r = e then 1 else 0 := by
  show ((((IntOp.cmpi .eq (iota .tc S64x512 32 [0] iota_S64x512_d0_w32 (ix2 e r))
    (broadcastTo S64x512 (k0_pay10 (F := Ideal) x w) broadcasts_S1x512_S64x512 (ix2 e r))).setWidth 32).toInt : ℝ) : EReal) = _
  rw [iota_single_apply, (over_rows (k0_pay10 (F := Ideal) x w) broadcasts_S1x512_S64x512 e r : _ = _), pay10_at]
  have h := WordCmp.cmpi_eq_ofNat (w := 32) (a := e.val) (b := (rowExpert x w r).val) (by omega) (by omega)
  show ((((IntOp.cmpi .eq (BitVec.ofNat 32 e.val) (BitVec.ofNat 32 (rowExpert x w r).val)).setWidth 32).toInt : ℝ) : EReal) = _
  rw [h, flag]
  by_cases q : rowExpert x w r = e
  · rw [if_pos q, if_pos (by rw [q])]; rfl
  · rw [if_neg q, if_neg fun s => q (Fin.ext s.symm)]; rfl

/-- How many of the block's tokens up to `r` go to `e`. -/
def within (x : FVec Ideal S512x4096 .f32) (w : FVec Ideal S64x4096 .f32) (r : Fin 512) (e : Fin 64) : ℕ :=
  (Finset.univ.filter fun s : Fin 512 => s.val ≤ r.val ∧ rowExpert x w s = e).card

/-- An expert's rows up to a row, counted. -/
theorem pay12_at (x : FVec Ideal S512x4096 .f32) (w : FVec Ideal S64x4096 .f32) (e : Fin 64) (r : Fin 512) :
    k0_pay12 (F := Ideal) x w (ix2 e r) = ((within x w r e : ℝ) : EReal) := by
  refine (Ideal.matmul_plain_apply (M := 64) (K := 512) (N := 512) none (k0_pay11 (F := Ideal) x w) _ _ e r).trans ?_
  have h0 : (constant S64x512 .f32 0x00000000#32 : FVec Ideal S64x512 .f32) (ix2 e r) = 0 := Ideal.ofBits_zero_f32
  rw [h0, zero_add]
  refine Eq.trans (Finset.sum_congr rfl fun s _ => ?_) (sum_count (fun s : Fin 512 => s.val ≤ r.val ∧ rowExpert x w s = e) Finset.univ)
  have h1 : (sitofp .f32 (extui 32 (cmpi .sle (iota .tc S512x512 32 [0] iota_S512x512_d0_w32) (iota .tc S512x512 32 [1] iota_S512x512_d1_w32)) natLt_1_32) : FVec Ideal S512x512 .f32) (ix2 s r)
      = if s.val ≤ r.val then 1 else 0 := by
    show ((((IntOp.cmpi .sle (iota .tc S512x512 32 [0] iota_S512x512_d0_w32 (ix2 s r)) (iota .tc S512x512 32 [1] iota_S512x512_d1_w32 (ix2 s r))).setWidth 32).toInt : ℝ) : EReal) = _
    rw [iota_single_apply, iota_single_apply]
    have h := WordCmp.cmpi_sle_ofNat (w := 32) (a := s.val) (b := r.val) (by omega) (by omega)
    show ((((IntOp.cmpi .sle (BitVec.ofNat 32 s.val) (BitVec.ofNat 32 r.val)).setWidth 32).toInt : ℝ) : EReal) = _
    rw [h, flag]
    split <;> rfl
  refine (congrArg₂ (fun a b : EReal => a * b) (pay11_at x w e s) h1).trans ?_
  by_cases q1 : rowExpert x w s = e <;> by_cases q2 : s.val ≤ r.val <;> simp [q1, q2]

/-! ## Places -/

theorem ofBits_one : Ideal.ofBits .f32 0x3F800000#32 = ((1 : ℝ) : EReal) := by
  simp [Ideal.ofBits, Ideal.ieee]
  try (rw [← EReal.coe_mul]; norm_num)

/-- The place of the block's token `r`, given how many tokens of the earlier blocks each expert has. -/
theorem pay13_at (x : FVec Ideal S512x4096 .f32) (w : FVec Ideal S64x4096 .f32) (v : FVec Ideal S64x1 .f32) (p : Fin 64 → ℕ)
    (hv : ∀ e, v (ix2 e (0 : Fin 1)) = ((p e : ℝ) : EReal)) (r : Fin 512) (n : ℕ)
    (hn : p (rowExpert x w r) + within x w r (rowExpert x w r) = n + 1) :
    k0_pay13 (F := Ideal) x w v (ix1 r) = ((n : ℝ) : EReal) := by
  refine (sum_col _ _ reduces_S64x512_S512 (.inl rfl) rfl r).trans ?_
  rw [Finset.sum_eq_single (rowExpert x w r)]
  · show (k0_pay12 (F := Ideal) x w (ix2 _ r) - Ideal.ofBits .f32 0x3F800000#32 + broadcastTo S64x512 v broadcasts_S64x1_S64x512 (ix2 (rowExpert x w r) r)) * k0_pay11 (F := Ideal) x w (ix2 _ r) = _
    rw [(over_cols v broadcasts_S64x1_S64x512 (rowExpert x w r) r : _ = _), pay12_at, pay11_at, if_pos rfl, hv, ofBits_one, mul_one,
      ← EReal.coe_sub, ← EReal.coe_add]
    have h : ((p (rowExpert x w r) : ℝ) + (within x w r (rowExpert x w r) : ℝ)) = n + 1 := by exact_mod_cast hn
    exact congrArg _ (by linarith)
  · intro e _ he
    show _ * k0_pay11 (F := Ideal) x w (ix2 e r) = 0
    rw [pay11_at, if_neg fun q => he q.symm, mul_zero]
  · exact fun h => absurd (Finset.mem_univ _) h

/-! ## Goals -/

/-- A small natural number converts to its own word. -/
theorem fptosi_nat (n : ℕ) (hn : n ≤ 4096) : Ideal.fptosi 32 ((n : ℝ) : EReal) = BitVec.ofNat 32 n := by
  rw [Ideal.fptosi, Ideal.toIntClamped_coe, if_pos (Nat.cast_nonneg n), Int.floor_natCast]
  rw [show max (-((2 ^ (32 - 1) : ℕ) : ℤ)) (min (((2 ^ (32 - 1) : ℕ) : ℤ) - 1) (n : ℤ)) = (n : ℤ) by
    rw [min_eq_right (by norm_num; omega), max_eq_right (by norm_num)]]
  exact BitVec.ofInt_natCast 32 n

/-- A row's flat address from its expert and place. -/
theorem pay1_at (i : IVec S1x512 32) (v : FVec Ideal S512 .f32) (c : Fin 4096 → Fin 64) (t : Fin 4096) (r : Fin 512)
    (hi : i (ix2 (0 : Fin 1) r) = BitVec.ofNat 32 (c t).val) (hv : v (ix1 r) = ((place c t : ℝ) : EReal)) :
    k0_pay1 (F := Ideal) i v (ix3 (0 : Fin 1) (0 : Fin 1) r) = goal c t := by
  have hp := place_le c t
  unfold k0_pay1
  refine (deep_row _ shapeCasts_S1x512_S1x1x512 r).trans ?_
  have h1 : (fptosi 32 (shapeCast S1x512 v shapeCasts_S512_S1x512) : IVec S1x512 32) (ix2 (0 : Fin 1) r) = BitVec.ofNat 32 (place c t) := by
    show Ideal.fptosi 32 (shapeCast S1x512 v shapeCasts_S512_S1x512 (ix2 (0 : Fin 1) r)) = _
    rw [(row_of_vec v shapeCasts_S512_S1x512 r : _ = _), hv, fptosi_nat _ hp]
  show (if IntOp.cmpi .slt ((fptosi 32 (shapeCast S1x512 v shapeCasts_S512_S1x512) : IVec S1x512 32) (ix2 (0 : Fin 1) r)) 64#32 = 1#1 then
    IntOp.addi (IntOp.muli (i (ix2 (0 : Fin 1) r)) 64#32) ((fptosi 32 (shapeCast S1x512 v shapeCasts_S512_S1x512) : IVec S1x512 32) (ix2 (0 : Fin 1) r))
    else 4294967295#32) = _
  rw [h1, hi]
  have h2 := WordCmp.cmpi_slt_ofNat (w := 32) (a := place c t) (b := 64) (by omega) (by norm_num)
  rw [h2]
  unfold goal
  by_cases q : place c t < 64
  · rw [if_pos q, if_pos (by simp [q])]
    show BitVec.ofNat 32 (c t).val * BitVec.ofNat 32 64 + BitVec.ofNat 32 (place c t) = _
    rw [← BitVec.ofNat_mul, ← BitVec.ofNat_add]
  · rw [if_neg q, if_neg (by simp [q])]

/-- The largest gates are stored as they are. -/
theorem pay2_at (v : FVec Ideal S1x512 .f32) (r : Fin 512) : k0_pay2 (F := Ideal) v (ix3 (0 : Fin 1) (0 : Fin 1) r) = v (ix2 (0 : Fin 1) r) :=
  deep_row v shapeCasts_S1x512_S1x1x512 r

/-! ## The columns carried along -/

/-- Both columns start at zero. -/
theorem pay6_at (i : S64x1.Idx) : k0_pay6 (F := Ideal) i = 0 :=
  (same_shape (broadcast S64x1 (Scalar.ofBits .f32 0x00000000#32) : FVec Ideal S64x1 .f32) shapeCasts_S64x1_S64x1 i).trans Ideal.ofBits_zero_f32

theorem pay7_at (i : S64x1.Idx) : k0_pay7 (F := Ideal) i = 0 :=
  (same_shape (broadcast S64x1 (Scalar.ofBits .f32 0x00000000#32) : FVec Ideal S64x1 .f32) shapeCasts_S64x1_S64x1 i).trans Ideal.ofBits_zero_f32

/-- The count column takes the block's counts, -/
theorem pay3_at (y : FVec Ideal S64x512 .f32) (v : FVec Ideal S64x1 .f32) (e : Fin 64) :
    k0_pay3 (F := Ideal) y v (ix2 e (0 : Fin 1)) = v (ix2 e (0 : Fin 1)) + y (ix2 e (511 : Fin 512)) := by
  refine (same_shape (addf v (extractStridedSlice S64x1 ![0, 511] y slices_S64x512_o0_511_S64x1)) shapeCasts_S64x1_S64x1 _).trans ?_
  show v (ix2 e (0 : Fin 1)) + extractStridedSlice S64x1 ![0, 511] y slices_S64x512_o0_511_S64x1 (ix2 e (0 : Fin 1)) = _
  refine congrArg (v (ix2 e (0 : Fin 1)) + ·) (extractStridedSlice_apply _ y _ _ _ fun a => ?_)
  match a with
  | ⟨0, _⟩ => exact (Nat.zero_add _).symm
  | ⟨1, _⟩ => rfl

/-- and the other column the block's sums of gates. -/
theorem pay4_at (y : FVec Ideal S64x512 .f32) (v : FVec Ideal S64x1 .f32) (e : Fin 64) :
    k0_pay4 (F := Ideal) y v (ix2 e (0 : Fin 1)) = v (ix2 e (0 : Fin 1)) + ∑ r : Fin 512, y (ix2 e r) := by
  refine (same_shape (addf v (shapeCast S64x1 (multiReduction .add [1] S64 y 0x00000000#32 reduces_S64x512_S64 (.inl rfl) rfl) shapeCasts_S64_S64x1)) shapeCasts_S64x1_S64x1 _).trans ?_
  exact congrArg (v (ix2 e (0 : Fin 1)) + ·) ((col_of_vec _ shapeCasts_S64_S64x1 e).trans (sum_row y _ reduces_S64x512_S64 (.inl rfl) rfl e))

/-! ## The statistics -/

theorem total (v : FVec Ideal S64x1 .f32) (j : S1.Idx) :
    multiReduction .add [1, 2] S1 (shapeCast S1x64x1 v shapeCasts_S64x1_S1x64x1) 0x00000000#32 reduces_S1x64x1_S1 (.inl rfl) rfl j
      = ∑ e : Fin 64, v (ix2 e (0 : Fin 1)) := by
  show (∑ i ∈ Finset.univ.filter (fun i => reduces_S1x64x1_S1.drop i = j), shapeCast S1x64x1 v shapeCasts_S64x1_S1x64x1 i) = _
  have hj : ∀ a b : S1.Idx, a = b := fun a b => funext fun k => Fin.ext (by
    match k with
    | ⟨0, _⟩ =>
      have h1 : (a 0).val < 1 := (a 0).isLt
      have h2 : (b 0).val < 1 := (b 0).isLt
      show (a 0).val = (b 0).val
      omega)
  rw [Finset.filter_true_of_mem fun i _ => hj _ _]
  refine (Equiv.sum_comp (Shape.reshapeEquiv shapeCasts_S64x1_S1x64x1) v).trans ?_
  rw [sum_idx2]
  exact Finset.sum_congr rfl fun e _ => by simp

theorem ofBits_small : Ideal.ofBits .f32 0x36800000#32 = ((1 / 262144 : ℝ) : EReal) := by
  simp [Ideal.ofBits, Ideal.ieee]
  rw [← EReal.coe_mul]; norm_num

theorem pay5_eq (n g : FVec Ideal S64x1 .f32) (i : S64x8.Idx) :
    k0_pay5 (F := Ideal) n g i = if IntOp.cmpi .eq (iota .tc S64x8 32 [1] iota_S64x8_d1_w32 i) 0#32 = 1#1 then
        broadcastTo S64x8 (shapeCast S64x1 n shapeCasts_S64x1_S64x1) broadcasts_S64x1_S64x8 i else
      if IntOp.cmpi .eq (iota .tc S64x8 32 [1] iota_S64x8_d1_w32 i) 1#32 = 1#1 then
        broadcastTo S64x8 (shapeCast S64x1 g shapeCasts_S64x1_S64x1) broadcasts_S64x1_S64x8 i else
      (extractAt ![0, 0, 0] (shapeCast S1x1x1 (multiReduction .add [1, 2] S1 (shapeCast S1x64x1 (mulf n g) shapeCasts_S64x1_S1x64x1) 0x00000000#32 reduces_S1x64x1_S1 (.inl rfl) rfl) shapeCasts_S1_S1x1x1) inpos_S1x1x1_p0_0_0 : EReal)
        * Ideal.ofBits .f32 0x36800000#32 := rfl

/-- The statistics' column 0 is the count column. -/
theorem stats_count (n g : FVec Ideal S64x1 .f32) (e : Fin 64) : k0_pay5 (F := Ideal) n g (ix2 e (0 : Fin 8)) = n (ix2 e (0 : Fin 1)) := by
  rw [pay5_eq, iota_single_apply]
  refine (if_pos (show IntOp.cmpi .eq (BitVec.ofNat 32 0) 0#32 = 1#1 from rfl)).trans ?_
  exact (over_cols _ broadcasts_S64x1_S64x8 e 0).trans (same_shape n _ _)

/-- The statistics' column 2 is the scaled sum of counts times gate sums. -/
theorem stats_loss (n g : FVec Ideal S64x1 .f32) (e : Fin 64) :
    k0_pay5 (F := Ideal) n g (ix2 e (2 : Fin 8)) = (∑ e : Fin 64, n (ix2 e (0 : Fin 1)) * g (ix2 e (0 : Fin 1))) * ((1 / 262144 : ℝ) : EReal) := by
  rw [pay5_eq, iota_single_apply, ofBits_small]
  refine (if_neg (by decide : ¬ IntOp.cmpi .eq (BitVec.ofNat 32 2) 0#32 = 1#1)).trans ?_
  refine (if_neg (by decide : ¬ IntOp.cmpi .eq (BitVec.ofNat 32 2) 1#32 = 1#1)).trans ?_
  exact congrArg (fun a : EReal => a * ((1 / 262144 : ℝ) : EReal)) (total (mulf n g) _)

end Cert.KernelIdeal.Gate

end
-- ==== Proof.GateBlocks.lean ====
/-
  The first call block by block: what its scratch columns hold before each block, and its three outputs as whole arrays.
-/
module

public import proofs.«01_k».proof.Proof.GateRegion
public import proofs.«01_k».proof.Proof.GateValues
public import Idealize.ShloMosaic.Lib.Pipeline.ValueKit

@[expose] public section

set_option maxRecDepth 8192

noncomputable section

namespace Cert.KernelIdeal.Gate

open Cert.KernelIdeal Cert.KernelIdeal.Gen Cert.MoE Idealize.ShloMosaic.ValueIdx
open Idealize.ShloMosaic hiding ix1 ix2 ix3
open Idealize.ShloMosaic.TcCoe
open Idealize.SL Idealize.SL.Sem
open Idealize.ShloMosaic.Pipeline (Dat Cfg Window)

variable (W : (c : Dev nD) → (b : Ref sig .tc) → Buf (Elt Ideal) ((c : Thread nD τ).loc b)) (c : Dev nD)

/-- The tokens and the weights by coordinates. -/
def xs (t k : Fin 4096) : EReal := (W c main_arg0 : FVec Ideal S4096x4096 .f32) (ix2 t k)
def ws (e : Fin 64) (k : Fin 4096) : EReal := (W c main_arg1 : FVec Ideal S64x4096 .f32) (ix2 e k)

/-- The token's expert. -/
def expert (t : Fin 4096) : Fin 64 := first (gate (xs W c) (ws W c) t)

/-- The `r`th token of block `n`. -/
def tokenOf (n : ℕ) (hn : n < 8) (r : Fin 512) : Fin 4096 := ⟨n * 512 + r.val, by have := r.isLt; omega⟩

/-- The block that each window shows at a grid point. -/
theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0, 0] := by decide +kernel
theorem index_3 : ∀ t : Fin cfg0.N, win0_3.index t = ![t.val, 0, 0] := by decide +kernel
theorem index_4 : ∀ t : Fin cfg0.N, win0_4.index t = ![0, 0] := by decide +kernel

/-- Block `n` of the tokens holds tokens `512 n` and on. -/
theorem tokens_apply (n : ℕ) (hn : n < 8) (r : Fin 512) (k : Fin 4096) : tokens W c n (ix2 r k) = xs W c (tokenOf n hn r) k := by
  let t : Fin cfg0.N := ⟨n, Nat.lt_of_lt_of_eq hn N_0.symm⟩
  refine (congrFun (tokens_at W c t) _).trans ?_
  unfold xs
  show (W c main_arg0 : FVec Ideal S4096x4096 .f32) (((cfg0.win 0).blk t).view.emb (ix2 r k)) = _
  refine congrArg _ (funext fun a => Fin.ext ?_)
  match a with
  | ⟨0, _⟩ => blk_simp [index_0]; rfl
  | ⟨1, _⟩ => blk_simp [index_0]

/-- Every block of the weights is all of them. -/
theorem weights_apply (n : ℕ) (hn : n < 8) (e : Fin 64) (k : Fin 4096) : weights W c n (ix2 e k) = ws W c e k := by
  let t : Fin cfg0.N := ⟨n, Nat.lt_of_lt_of_eq hn N_0.symm⟩
  refine (congrFun (weights_at W c t) _).trans ?_
  unfold ws
  show (W c main_arg1 : FVec Ideal S64x4096 .f32) (((cfg0.win 1).blk t).view.emb (ix2 e k)) = _
  refine congrArg _ (funext fun a => Fin.ext ?_)
  match a with
  | ⟨0, _⟩ => blk_simp [index_1]
  | ⟨1, _⟩ => blk_simp [index_1]

/-- The gates of a block's row are the gates of its token, -/
theorem rowGate_eq (n : ℕ) (hn : n < 8) (r : Fin 512) :
    rowGate (tokens W c n) (weights W c n) r = gate (xs W c) (ws W c) (tokenOf n hn r) := by
  unfold rowGate gate
  refine congrArg share (funext fun e => Finset.sum_congr rfl fun k _ => ?_)
  rw [tokens_apply W c n hn, weights_apply W c n hn]

/-- and its expert the token's. -/
theorem rowExpert_eq (n : ℕ) (hn : n < 8) (r : Fin 512) :
    rowExpert (tokens W c n) (weights W c n) r = expert W c (tokenOf n hn r) :=
  congrArg first (rowGate_eq W c n hn r)

/-! ## Adding up a block -/

/-- A sum over the tokens up to one inside a block is the sum over the earlier blocks' tokens and the block's. -/
theorem sum_block {M : Type} [AddCommMonoid M] (f : Fin 4096 → M) (n : ℕ) (hn : n < 8) (m : ℕ) (hm : m ≤ 512) :
    (∑ t ∈ Finset.univ.filter (fun t : Fin 4096 => t.val < n * 512 + m), f t)
      = (∑ t ∈ Finset.univ.filter (fun t : Fin 4096 => t.val < n * 512), f t)
        + ∑ r ∈ Finset.univ.filter (fun r : Fin 512 => r.val < m), f (tokenOf n hn r) := by
  rw [← Finset.sum_filter_add_sum_filter_not (Finset.univ.filter fun t : Fin 4096 => t.val < n * 512 + m) (fun t => t.val < n * 512)]
  refine congrArg₂ (· + ·) (Finset.sum_congr (Finset.ext fun t => ?_) fun _ _ => rfl) (Eq.symm ?_)
  · simp only [Finset.mem_filter, Finset.mem_univ, true_and]
    omega
  · refine Finset.sum_bij (fun r _ => tokenOf n hn r) (fun r hr => ?_) (fun r _ r' _ h => ?_) (fun t ht => ?_) fun _ _ => rfl
    · simp only [Finset.mem_filter, Finset.mem_univ, true_and] at hr ⊢
      show n * 512 + r.val < _ ∧ ¬ n * 512 + r.val < _
      omega
    · have : n * 512 + r.val = n * 512 + r'.val := congrArg Fin.val h
      exact Fin.ext (by omega)
    · simp only [Finset.mem_filter, Finset.mem_univ, true_and] at ht
      refine ⟨⟨t.val - n * 512, by omega⟩, ?_, Fin.ext ?_⟩
      · simp only [Finset.mem_filter, Finset.mem_univ, true_and]
        omega
      · show n * 512 + (t.val - n * 512) = t.val
        omega

/-- The count of an expert's tokens as a sum of ones. -/
theorem upto_eq_sum (d : Fin 4096 → Fin 64) (n : ℕ) (e : Fin 64) :
    upto d n e = ∑ t ∈ Finset.univ.filter (fun t : Fin 4096 => t.val < n), if d t = e then 1 else 0 := by
  unfold upto
  rw [← Finset.filter_filter, Finset.card_filter]

/-- The count before a block and the count within it make up the count. -/
theorem upto_within (n : ℕ) (hn : n < 8) (r : Fin 512) (e : Fin 64) :
    upto (expert W c) (n * 512) e + within (tokens W c n) (weights W c n) r e = upto (expert W c) (n * 512 + (r.val + 1)) e := by
  rw [upto_eq_sum, upto_eq_sum, sum_block _ n hn (r.val + 1) r.isLt]
  refine congrArg (_ + ·) ?_
  unfold within
  rw [Finset.card_filter, Finset.sum_filter]
  refine Finset.sum_congr rfl fun s _ => ?_
  rw [rowExpert_eq W c n hn]
  by_cases h1 : s.val ≤ r.val
  · rw [if_pos (Nat.lt_succ_of_le h1)]
    simp [h1]
  · rw [if_neg fun q => h1 (Nat.le_of_lt_succ q)]
    simp [h1]

/-! ## The scratch columns -/

/-- Before block `n` the first scratch column counts each expert's tokens so far, -/
theorem counted_at (n : ℕ) (hn : n ≤ 8) (e : Fin 64) :
    counted W c n (ix2 e (0 : Fin 1)) = ((upto (expert W c) (n * 512) e : ℝ) : EReal) := by
  induction n with
  | zero =>
    rw [Nat.zero_mul, upto_zero]
    exact (pay6_at _).trans (by simp)
  | succ n ih =>
    rw [counted, pay3_at, ih (by omega), pay12_at, ← EReal.coe_add, Nat.succ_mul, ← Nat.cast_add, upto_within W c n hn 511 e]
    rfl

/-- and the second holds each expert's sum of gates so far. -/
theorem gated_at (n : ℕ) (hn : n ≤ 8) (e : Fin 64) :
    gated W c n (ix2 e (0 : Fin 1)) = ∑ t ∈ Finset.univ.filter (fun t : Fin 4096 => t.val < n * 512), gate (xs W c) (ws W c) t e := by
  induction n with
  | zero =>
    refine (pay7_at _).trans ?_
    rw [Finset.filter_false_of_mem fun t _ => by omega, Finset.sum_empty]
  | succ n ih =>
    rw [gated, pay4_at, ih (by omega), Nat.succ_mul, sum_block _ n hn 512 le_rfl]
    refine congrArg (_ + ·) ?_
    rw [Finset.filter_true_of_mem fun r _ => r.isLt]
    exact Finset.sum_congr rfl fun r _ => (pay8_at _ _ e r).trans (congrFun (rowGate_eq W c n hn r) e)

/-! ## The outputs -/

/-- A block's flat addresses are its tokens'. -/
theorem goal_at (n : ℕ) (hn : n < 8) (r : Fin 512) :
    k0_pay1 (F := Ideal) (k0_pay10 (tokens W c n) (weights W c n)) (k0_pay13 (tokens W c n) (weights W c n) (counted W c n)) (ix3 (0 : Fin 1) (0 : Fin 1) r)
      = goal (expert W c) (tokenOf n hn r) := by
  refine pay1_at _ _ _ _ r ?_ ?_
  · rw [pay10_at, rowExpert_eq W c n hn]
  · refine pay13_at _ _ _ (upto (expert W c) (n * 512)) (fun e => counted_at W c n hn.le e) r _ ?_
    rw [upto_within W c n hn, rowExpert_eq W c n hn]
    have := upto_succ (expert W c) (tokenOf n hn r) (expert W c (tokenOf n hn r))
    rw [if_pos rfl] at this
    exact this

/-- A block's largest gates are its tokens'. -/
theorem top_at (n : ℕ) (hn : n < 8) (r : Fin 512) :
    k0_pay2 (F := Ideal) (k0_pay9 (tokens W c n) (weights W c n)) (ix3 (0 : Fin 1) (0 : Fin 1) r)
      = top (gate (xs W c) (ws W c) (tokenOf n hn r)) := by
  rw [pay2_at, pay9_at, rowGate_eq W c n hn]

/-- An index of a flat block is its last coordinate. -/
theorem flat_idx (y : (⟨3, ![1, 1, 512]⟩ : Shape).Idx) : ∃ r : Fin 512, y = ix3 (0 : Fin 1) (0 : Fin 1) r := by
  refine ⟨y 2, (ValueIdx.eq_ix3 y).trans ?_⟩
  have h0 : y 0 = (0 : Fin 1) := Subsingleton.elim (α := Fin 1) _ _
  have h1 : y 1 = (0 : Fin 1) := Subsingleton.elim (α := Fin 1) _ _
  rw [h0, h1]; rfl

/-- The token an index of a flat output is of. -/
def tokenAt (i : S8x1x512.Idx) : Fin 4096 := tokenOf (i 0).val (i 0).isLt (i 2)

/-- The flat addresses as the first call leaves them. -/
theorem flat_arr : (dat W c).arrAt 2 cfg0.N = fun i : S8x1x512.Idx => goal (expert W c) (tokenAt i) := by
  refine (dat W c).arrAt_eq_of_covers 2 _ (by decide +kernel) fun t hf y => ?_
  blk_simp
  rw [after_2]
  obtain ⟨r, rfl⟩ := flat_idx y
  refine (goal_at W c t.val (Nat.lt_of_lt_of_eq t.isLt N_0) r).trans (congrArg _ (Fin.ext ?_))
  show t.val * 512 + r.val = (((win0_2.blk t).view.emb (ix3 (0 : Fin 1) (0 : Fin 1) r) 0 : Fin _) : ℕ) * 512
    + (((win0_2.blk t).view.emb (ix3 (0 : Fin 1) (0 : Fin 1) r) 2 : Fin _) : ℕ)
  blk_simp [index_2]
  rfl

/-- The largest gates as the first call leaves them. -/
theorem top_arr : (dat W c).arrAt 3 cfg0.N = fun i : S8x1x512.Idx => top (gate (xs W c) (ws W c) (tokenAt i)) := by
  refine (dat W c).arrAt_eq_of_covers 3 _ (by decide +kernel) fun t hf y => ?_
  blk_simp
  rw [after_3]
  obtain ⟨r, rfl⟩ := flat_idx y
  refine (top_at W c t.val (Nat.lt_of_lt_of_eq t.isLt N_0) r).trans (congrArg (fun s => top (gate (xs W c) (ws W c) s)) (Fin.ext ?_))
  show t.val * 512 + r.val = (((win0_3.blk t).view.emb (ix3 (0 : Fin 1) (0 : Fin 1) r) 0 : Fin _) : ℕ) * 512
    + (((win0_3.blk t).view.emb (ix3 (0 : Fin 1) (0 : Fin 1) r) 2 : Fin _) : ℕ)
  blk_simp [index_3]
  rfl

/-- The statistics are written out after the last block only. -/
theorem last_point : ∀ t : Fin cfg0.N, (cfg0.win 4).flush t = true → t.val = 7 := by decide +kernel

/-- The statistics as the first call leaves them: those of the two scratch columns after the last block. -/
theorem stats_arr : (dat W c).arrAt 4 cfg0.N = k0_pay5 (F := Ideal) (counted W c 8) (gated W c 8) := by
  refine (dat W c).arrAt_eq_of_covers 4 _ (by decide +kernel) fun t hf y => ?_
  have ht := last_point t hf
  blk_simp
  rw [after_4, ht]
  refine congrArg (k0_pay5 (F := Ideal) (counted W c 8) (gated W c 8)) (funext fun a => Fin.ext ?_)
  match a with
  | ⟨0, _⟩ => blk_simp [index_4]
  | ⟨1, _⟩ => blk_simp [index_4]

/-- After the last block: all the tokens of an expert, -/
theorem counted_all (e : Fin 64) : counted W c 8 (ix2 e (0 : Fin 1)) = ((upto (expert W c) 4096 e : ℝ) : EReal) := by
  have h := counted_at W c 8 le_rfl e
  rwa [show 8 * 512 = 4096 from rfl] at h

/-- and all its gates. -/
theorem gated_all (e : Fin 64) : gated W c 8 (ix2 e (0 : Fin 1)) = ∑ t, gate (xs W c) (ws W c) t e := by
  rw [gated_at W c 8 le_rfl, Finset.filter_true_of_mem fun t _ => t.isLt]

/-- Column 0 of the statistics: the tokens of each expert. -/
theorem stats_arr_count (e : Fin 64) :
    k0_pay5 (F := Ideal) (counted W c 8) (gated W c 8) (ix2 e (0 : Fin 8)) = ((upto (expert W c) 4096 e : ℝ) : EReal) :=
  (stats_count (counted W c 8) (gated W c 8) e).trans (counted_all W c e)

/-- Column 2 of the statistics: the balance loss. -/
theorem stats_arr_loss (e : Fin 64) :
    k0_pay5 (F := Ideal) (counted W c 8) (gated W c 8) (ix2 e (2 : Fin 8))
      = (∑ e, ((upto (expert W c) 4096 e : ℝ) : EReal) * ∑ t, gate (xs W c) (ws W c) t e) * ((1 / 262144 : ℝ) : EReal) := by
  rw [stats_loss]
  refine congrArg (fun a : EReal => a * ((1 / 262144 : ℝ) : EReal)) (Finset.sum_congr rfl fun e _ => ?_)
  rw [counted_all, gated_all]

end Cert.KernelIdeal.Gate

end
-- ==== Proof.DispatchBlocks.lean ====
/-
  What the second call leaves, at ideal values: at a row and a token, a hit when the token's flat address is the row.
-/
module

public import proofs.«01_k».proof.Proof.DispatchRegion
public import proofs.«01_k».proof.Proof.GateValues
public import Idealize.ShloMosaic.Lib.Pipeline.ValueKit

@[expose] public section

set_option maxRecDepth 16384

noncomputable section

namespace Cert.KernelIdeal.Dispatch

open Cert.KernelIdeal Cert.KernelIdeal.Gen Cert.MoE
open Idealize.ShloMosaic.ValueIdx
open Idealize.ShloMosaic hiding ix1 ix2 ix3
open Idealize.ShloMosaic.TcCoe
open Idealize.ShloMosaic.Pipeline (Dat Cfg Window)

/-! ## The payloads -/

/-- The comparison of the second call as operations on whole arrays. -/
theorem hit_eq (i : grid1.Coords) (v : IVec S1x4096 32) : k1_pay1 (F := Ideal) i v
    = cmpi .eq (addi (iota .tc S512x4096 32 [0] iota_S512x4096_d0_w32) (broadcast S512x4096 (Scalar.muli (BitVec.ofNat 32 (i 0).val) 512#32)))
        (broadcastTo S512x4096 (shapeCast S1x4096 v shapeCasts_S1x4096_S1x4096) broadcasts_S1x4096_S512x4096) := rfl

/-- The word of a row's number, from the row within its block and the block's number. -/
theorem row_word (a r : ℕ) : BitVec.ofNat 32 r + BitVec.ofNat 32 a * 512#32 = BitVec.ofNat 32 (a * 512 + r) := by
  rw [show (512#32 : BitVec 32) = BitVec.ofNat 32 512 from rfl, ← BitVec.ofNat_mul, ← BitVec.ofNat_add, Nat.add_comm]

/-- The bit of a comparison for equality. -/
theorem eq_bit (a b : BitVec 32) : IntOp.cmpi .eq a b = if b = a then 1#1 else 0#1 := by
  by_cases h : b = a
  · subst h; rw [if_pos rfl]; simp [IntOp.cmpi]
  · rw [if_neg h]
    show BitVec.ofBool (a == b) = 0#1
    rw [beq_eq_false_iff_ne.2 (Ne.symm h)]; rfl

/-- A row and a token match when the token's address is the row's number. -/
theorem hit_at (i : grid1.Coords) (v : IVec S1x4096 32) (r : Fin 512) (t : Fin 4096) :
    k1_pay1 (F := Ideal) i v (ix2 r t) = if v (ix2 (0 : Fin 1) t) = BitVec.ofNat 32 ((i 0).val * 512 + r.val) then 1#1 else 0#1 := by
  rw [hit_eq]
  have h : broadcastTo S512x4096 (shapeCast S1x4096 v shapeCasts_S1x4096_S1x4096) broadcasts_S1x4096_S512x4096 (ix2 r t) = v (ix2 (0 : Fin 1) t) :=
    (Gate.over_rows _ broadcasts_S1x4096_S512x4096 r t).trans (Gate.same_shape v _ _)
  show IntOp.cmpi .eq (iota .tc S512x4096 32 [0] iota_S512x4096_d0_w32 (ix2 r t) + BitVec.ofNat 32 (i 0).val * 512#32)
    (broadcastTo S512x4096 (shapeCast S1x4096 v shapeCasts_S1x4096_S1x4096) broadcasts_S1x4096_S512x4096 (ix2 r t)) = _
  rw [h, iota_single_apply, eq_bit]
  rw [show BitVec.ofNat 32 (ix2 r t 0).val = BitVec.ofNat 32 r.val from rfl, row_word]

/-- The stored weights as operations on whole arrays. -/
theorem weight_eq (i : grid1.Coords) (v : IVec S1x4096 32) (g : FVec Ideal S1x4096 .f32) : k1_pay2 (F := Ideal) i v g
    = select (k1_pay1 (F := Ideal) i v) (broadcastTo S512x4096 (shapeCast S1x4096 (shapeCast S1x4096 g shapeCasts_S1x4096_S1x4096) shapeCasts_S1x4096_S1x4096) broadcasts_S1x4096_S512x4096)
        (broadcast S512x4096 (Ideal.ofBits .f32 0x00000000#32)) := rfl

/-- The stored weight is the token's where row and token match, zero elsewhere. -/
theorem weight_at (i : grid1.Coords) (v : IVec S1x4096 32) (g : FVec Ideal S1x4096 .f32) (r : Fin 512) (t : Fin 4096) :
    k1_pay2 (F := Ideal) i v g (ix2 r t)
      = if v (ix2 (0 : Fin 1) t) = BitVec.ofNat 32 ((i 0).val * 512 + r.val) then g (ix2 (0 : Fin 1) t) else 0 := by
  rw [weight_eq]
  have h : broadcastTo S512x4096 (shapeCast S1x4096 (shapeCast S1x4096 g shapeCasts_S1x4096_S1x4096) shapeCasts_S1x4096_S1x4096) broadcasts_S1x4096_S512x4096 (ix2 r t)
      = g (ix2 (0 : Fin 1) t) :=
    (Gate.over_rows _ broadcasts_S1x4096_S512x4096 r t).trans ((Gate.same_shape _ _ _).trans (Gate.same_shape g _ _))
  show (if k1_pay1 (F := Ideal) i v (ix2 r t) = 1#1 then broadcastTo S512x4096 (shapeCast S1x4096 (shapeCast S1x4096 g shapeCasts_S1x4096_S1x4096) shapeCasts_S1x4096_S1x4096) broadcasts_S1x4096_S512x4096 (ix2 r t)
    else Ideal.ofBits .f32 0x00000000#32) = _
  rw [h, hit_at]
  by_cases q : v (ix2 (0 : Fin 1) t) = BitVec.ofNat 32 ((i 0).val * 512 + r.val)
  · rw [if_pos q, if_pos q, if_pos rfl]
  · rw [if_neg q, if_neg q, if_neg (by decide)]
    exact Ideal.ofBits_zero _

/-- The stored mark is one where row and token match, zero elsewhere. -/
theorem mark_at (i : grid1.Coords) (v : IVec S1x4096 32) (r : Fin 512) (t : Fin 4096) :
    k1_pay3 (F := Ideal) i v (ix2 r t)
      = if v (ix2 (0 : Fin 1) t) = BitVec.ofNat 32 ((i 0).val * 512 + r.val) then 1#8 else 0#8 := by
  show (k1_pay1 (F := Ideal) i v (ix2 r t)).setWidth 8 = _
  rw [hit_at]
  by_cases q : v (ix2 (0 : Fin 1) t) = BitVec.ofNat 32 ((i 0).val * 512 + r.val)
  · rw [if_pos q, if_pos q]; rfl
  · rw [if_neg q, if_neg q]; rfl

/-! ## The blocks -/

variable (W : (c : Dev nD) → (b : Ref sig .tc) → Buf (Elt Ideal) ((c : Thread nD τ).loc b)) (c : Dev nD)

/-- The tokens' flat addresses at entry, -/
def addr (t : Fin 4096) : BitVec 32 := (W c main_call0_v1 : IVec S1x4096 32) (ix2 (0 : Fin 1) t)
/-- and their weights. -/
def wgt (t : Fin 4096) : EReal := (W c main_call0_v2 : FVec Ideal S1x4096 .f32) (ix2 (0 : Fin 1) t)

/-- The block that each window shows at a grid point: the inputs whole, the outputs by 512 rows. -/
theorem index_0 : ∀ t : Fin cfg1.N, win1_0.index t = ![0, 0] := by decide +kernel
theorem index_1 : ∀ t : Fin cfg1.N, win1_1.index t = ![0, 0] := by decide +kernel
theorem index_2 : ∀ t : Fin cfg1.N, win1_2.index t = ![t.val, 0] := by decide +kernel
theorem index_3 : ∀ t : Fin cfg1.N, win1_3.index t = ![t.val, 0] := by decide +kernel
/-- The grid point's number is its coordinate. -/
theorem point : ∀ t : Fin cfg1.N, (grid1.coords t 0).val = t.val := by decide +kernel

/-- Every input block is the whole row of addresses, -/
theorem addr_block (t : Fin cfg1.N) (s : Fin 4096) : (blockIn W c 0 t : IVec S1x4096 32) (ix2 (0 : Fin 1) s) = addr W c s := by
  unfold addr
  show (W c main_call0_v1 : IVec S1x4096 32) (((cfg1.win 0).blk t).view.emb (ix2 (0 : Fin 1) s)) = _
  refine congrArg _ (funext fun a => Fin.ext ?_)
  match a with
  | ⟨0, _⟩ => blk_simp [index_0]
  | ⟨1, _⟩ => blk_simp [index_0]

/-- and of weights. -/
theorem wgt_block (t : Fin cfg1.N) (s : Fin 4096) : (blockIn W c 1 t : FVec Ideal S1x4096 .f32) (ix2 (0 : Fin 1) s) = wgt W c s := by
  unfold wgt
  show (W c main_call0_v2 : FVec Ideal S1x4096 .f32) (((cfg1.win 1).blk t).view.emb (ix2 (0 : Fin 1) s)) = _
  refine congrArg _ (funext fun a => Fin.ext ?_)
  match a with
  | ⟨0, _⟩ => blk_simp [index_1]
  | ⟨1, _⟩ => blk_simp [index_1]

/-! ## The outputs -/

/-- The weights as the second call leaves them, at every row and token. -/
theorem weights_arr : (dat W c).arrAt 2 cfg1.N
    = fun i : S4096x4096.Idx => if addr W c (i 1) = BitVec.ofNat 32 (i 0).val then wgt W c (i 1) else 0 := by
  refine (dat W c).arrAt_eq_of_covers 2 _ (by decide +kernel) fun t hf y => ?_
  blk_simp
  rw [after_2]
  obtain ⟨r, s, rfl⟩ : ∃ (r : Fin 512) (s : Fin 4096), y = ix2 r s := ⟨y 0, y 1, ValueIdx.eq_ix2 y⟩
  refine (weight_at _ _ _ r s).trans ?_
  have h0 : (((win1_2.blk t).view.emb (ix2 r s) 0 : Fin _) : ℕ) = t.val * 512 + r.val := by blk_simp [index_2]; rfl
  have h1 : (win1_2.blk t).view.emb (ix2 r s) 1 = s := Fin.ext (by blk_simp [index_2]; rfl)
  rw [addr_block, wgt_block, point, h1, index_2]
  rfl

/-- The marks as the second call leaves them, at every row and token. -/
theorem marks_arr : (dat W c).arrAt 3 cfg1.N
    = fun i : S4096x4096.Idx => if addr W c (i 1) = BitVec.ofNat 32 (i 0).val then 1#8 else 0#8 := by
  refine (dat W c).arrAt_eq_of_covers 3 _ (by decide +kernel) fun t hf y => ?_
  blk_simp
  rw [after_3]
  obtain ⟨r, s, rfl⟩ : ∃ (r : Fin 512) (s : Fin 4096), y = ix2 r s := ⟨y 0, y 1, ValueIdx.eq_ix2 y⟩
  refine (mark_at _ _ r s).trans ?_
  have h0 : (((win1_3.blk t).view.emb (ix2 r s) 0 : Fin _) : ℕ) = t.val * 512 + r.val := by blk_simp [index_3]; rfl
  have h1 : (win1_3.blk t).view.emb (ix2 r s) 1 = s := Fin.ext (by blk_simp [index_3]; rfl)
  rw [addr_block, point, h1, index_3]
  rfl

end Cert.KernelIdeal.Dispatch

end
-- ==== Proof.KernelValues.lean ====
/-
  The kernel's four results at ideal values, entry by entry, from the two calls' outputs and the host operations.
-/
module

public import proofs.«01_k».proof.Proof.KernelFrames
public import proofs.«01_k».proof.Proof.GateBlocks
public import proofs.«01_k».proof.Proof.DispatchBlocks

@[expose] public section

set_option maxRecDepth 16384

noncomputable section

namespace Cert.KernelIdeal.Whole

open Cert.KernelIdeal Cert.KernelIdeal.Gen Cert.MoE
open Idealize.ShloMosaic.ValueIdx
open Idealize.ShloMosaic hiding ix1 ix2 ix3
open Idealize.ShloMosaic.TcCoe Idealize.ShloMosaic.StableHlo

section Reads

variable {F : FTy → Type} [FloatOps F] (V : Valuation τ sig (Elt F))

/-- What the second call finds as addresses, from the first call's output, -/
theorem between_v1 : after hostOps1 V (Proc.devRef .tc main_call0_v1)
    = shapeCast S1x4096 (V (Proc.devRef .tc main_call0_v0_0) : IVec S8x1x512 32) shapeCasts_S8x1x512_S1x4096 := by
  simp only [hostOps1, TRef.reshape, TRef.toBuf, TRef.ofBuf, cast_eq]; after_results_simp
  rfl

/-- and as weights. -/
theorem between_v2 : after hostOps1 V (Proc.devRef .tc main_call0_v2)
    = shapeCast S1x4096 (V (Proc.devRef .tc main_call0_v0_1) : FVec F S8x1x512 .f32) shapeCasts_S8x1x512_S1x4096 := by
  simp only [hostOps1, TRef.reshape, TRef.toBuf, TRef.ofBuf, cast_eq]; after_results_simp
  rfl

/-- The four results from the calls' outputs: the loss, -/
theorem ending_v0 : after hostOps2 V (Proc.devRef .tc main_v0_0)
    = shapeCast S_ (extractStridedSlice S1x1 ![0, 2] (V (Proc.devRef .tc main_call0_v0_2) : FVec F S64x8 .f32) slices_S64x8_S1x1_0_2) shapeCasts_S1x1_S_ := by
  simp only [hostOps2, TRef.reshape, TRef.nullary, TRef.unary, TRef.binary, TRef.toBuf, TRef.ofBuf, cast_eq]; after_results_simp
  rfl

/-- the counts, -/
theorem ending_v3 : after hostOps2 V (Proc.devRef .tc main_v0_3)
    = fptosi 32 (shapeCast S64 (extractStridedSlice S64x1 ![0, 0] (V (Proc.devRef .tc main_call0_v0_2) : FVec F S64x8 .f32) slices_S64x8_S64x1_0_0) shapeCasts_S64x1_S64) := by
  simp only [hostOps2, TRef.reshape, TRef.nullary, TRef.unary, TRef.binary, TRef.toBuf, TRef.ofBuf, cast_eq]; after_results_simp
  rfl

/-- the combine weights, -/
theorem ending_v1 : after hostOps2 V (Proc.devRef .tc main_v0_1)
    = transpose S4096x64x64 [2, 0, 1] (shapeCast S64x64x4096 (V (Proc.devRef .tc main_call0_v3_0) : FVec F S4096x4096 .f32) shapeCasts_S4096x4096_S64x64x4096)
        transposes_S64x64x4096_S4096x64x64_2_0_1 := by
  simp only [hostOps2, TRef.reshape, TRef.nullary, TRef.unary, TRef.binary, TRef.toBuf, TRef.ofBuf, cast_eq]; after_results_simp
  rfl

/-- and the mask. -/
theorem ending_v2 : after hostOps2 V (Proc.devRef .tc main_v0_2)
    = cmpi .ne (transpose S4096x64x64 [2, 0, 1] (shapeCast S64x64x4096 (V (Proc.devRef .tc main_call0_v3_1) : IVec S4096x4096 8) shapeCasts_S4096x4096_S64x64x4096)
        transposes_S64x64x4096_S4096x64x64_2_0_1) (broadcastInDim S4096x64x64 ![] bcast_S_S4096x64x64 (constantI S_ 8 0#8)) := by
  simp only [hostOps2, TRef.reshape, TRef.nullary, TRef.unary, TRef.binary, TRef.toBuf, TRef.ofBuf, cast_eq]; after_results_simp
  rfl

end Reads

/-! ## Layouts -/

/-- The flat outputs laid out in one row: at a token, the entry that is that token's. -/
theorem flat_read {α : Type} (x : S8x1x512.Idx → α) (h : S8x1x512.ShapeCasts S1x4096) (t : Fin 4096) :
    ∃ i : S8x1x512.Idx, Gate.tokenAt i = t ∧ shapeCast S1x4096 x h (ix2 (0 : Fin 1) t) = x i := by
  have ht := t.isLt
  let a : Fin 8 := ⟨t.val / 512, by omega⟩
  let b : Fin 512 := ⟨t.val % 512, by omega⟩
  refine ⟨ix3 a (0 : Fin 1) b, Fin.ext ?_, shapeCast_apply x h _ _ ?_⟩
  · show t.val / 512 * 512 + t.val % 512 = t.val
    omega
  · rw [Shape.rowMajor_val_two, Shape.rowMajor_val_three]
    show ((t.val / 512) * 1 + 0) * 512 + t.val % 512 = 0 * 4096 + t.val
    omega

/-- The row of an expert's slot. -/
def rowOf (e s : Fin 64) : Fin 4096 := ⟨e.val * 64 + s.val, by have := e.isLt; have := s.isLt; omega⟩

/-- Rows split into expert and slot, the token moved in front: the entry at the expert's slot. -/
theorem row_read {α : Type} (x : S4096x4096.Idx → α) (h : S4096x4096.ShapeCasts S64x64x4096) (h' : S64x64x4096.Transposes [2, 0, 1] S4096x64x64)
    (t : Fin 4096) (e s : Fin 64) :
    transpose S4096x64x64 [2, 0, 1] (shapeCast S64x64x4096 x h) h' (ix3 t e s) = x (ix2 (rowOf e s) t) := by
  have h1 : transpose S4096x64x64 [2, 0, 1] (shapeCast S64x64x4096 x h) h' (ix3 t e s) = shapeCast S64x64x4096 x h (ix3 e s t) :=
    transpose_apply _ _ h' _ _ fun b => match b with | ⟨0, _⟩ => rfl | ⟨1, _⟩ => rfl | ⟨2, _⟩ => rfl
  refine h1.trans (shapeCast_apply x h _ _ ?_)
  rw [Shape.rowMajor_val_two, Shape.rowMajor_val_three]
  show (e.val * 64 + s.val) * 4096 + t.val = (e.val * 64 + s.val) * 4096 + t.val
  rfl

/-- The loss is cut out of row 0, column 2. -/
theorem corner_read {α : Type} (x : S64x8.Idx → α) (h : S64x8.Slices ![0, 2] S1x1) (h' : S1x1.ShapeCasts S_) (j : S_.Idx) :
    shapeCast S_ (extractStridedSlice S1x1 ![0, 2] x h) h' j = x (ix2 (0 : Fin 64) (2 : Fin 8)) := by
  refine (shapeCast_apply _ h' _ (ix2 (0 : Fin 1) (0 : Fin 1)) ?_).trans ?_
  · have h1 := (S_.rowMajor j).isLt
    have h2 := (S1x1.rowMajor (ix2 (0 : Fin 1) (0 : Fin 1))).isLt
    have e1 : S_.numel = 1 := by decide
    have e2 : S1x1.numel = 1 := by decide
    omega
  · exact extractStridedSlice_apply _ x h _ _ fun a => match a with | ⟨0, _⟩ => rfl | ⟨1, _⟩ => rfl

/-- The counts are cut out of column 0. -/
theorem column_read {α : Type} (x : S64x8.Idx → α) (h : S64x8.Slices ![0, 0] S64x1) (h' : S64x1.ShapeCasts S64) (e : Fin 64) :
    shapeCast S64 (extractStridedSlice S64x1 ![0, 0] x h) h' (ix1 e) = x (ix2 e (0 : Fin 8)) := by
  refine (shapeCast_apply _ h' _ (ix2 e (0 : Fin 1)) ?_).trans ?_
  · rw [Shape.rowMajor_val_two, Shape.rowMajor_val_one]
    show e.val * 1 + 0 = e.val
    omega
  · refine extractStridedSlice_apply _ x h _ _ fun a => ?_
    match a with
    | ⟨0, _⟩ => exact (Nat.zero_add _).symm
    | ⟨1, _⟩ => rfl

/-! ## The calls' outputs where the host operations read them -/

variable (m : (ℓ : Loc nD τ sig) → Buf (Elt Ideal) ℓ) (c : Dev nD)

/-- The tokens, the weights, the gates and the experts of the launched arguments. -/
abbrev xs := Gate.xs (fun c b => launched m c b) c
abbrev ws := Gate.ws (fun c b => launched m c b) c
abbrev expert := Gate.expert (fun c b => launched m c b) c

/-- The second call's addresses are the tokens' flat addresses, -/
theorem addr_eq (t : Fin 4096) : Dispatch.addr (fun c b => between m c b) c t = goal (expert m c) t := by
  unfold Dispatch.addr
  obtain ⟨i, hi, h⟩ := flat_read (gateLeft m c (Proc.devRef .tc main_call0_v0_0) : IVec S8x1x512 32) shapeCasts_S8x1x512_S1x4096 t
  refine (congrFun (between_v1 (gateLeft m c)) _).trans (h.trans ?_)
  refine (congrFun (Pipeline.afterRegion_arr (gateDat m c) (launched m c) arr_inj0 2) i).trans ?_
  rw [Gate.flat_arr]
  exact congrArg (goal (expert m c)) hi

/-- and its weights their largest gates. -/
theorem wgt_eq (t : Fin 4096) : Dispatch.wgt (fun c b => between m c b) c t = top (gate (xs m c) (ws m c) t) := by
  unfold Dispatch.wgt
  obtain ⟨i, hi, h⟩ := flat_read (gateLeft m c (Proc.devRef .tc main_call0_v0_1) : FVec Ideal S8x1x512 .f32) shapeCasts_S8x1x512_S1x4096 t
  refine (congrFun (between_v2 (gateLeft m c)) _).trans (h.trans ?_)
  refine (congrFun (Pipeline.afterRegion_arr (gateDat m c) (launched m c) arr_inj0 3) i).trans ?_
  rw [Gate.top_arr]
  exact congrArg (fun s => top (gate (xs m c) (ws m c) s)) hi

/-- The statistics are still there after the second call. -/
theorem stats_eq : (dispatchLeft m c (Proc.devRef .tc main_call0_v0_2) : FVec Ideal S64x8 .f32)
    = k0_pay5 (F := Ideal) (Gate.counted (fun c b => launched m c b) c 8) (Gate.gated (fun c b => launched m c b) c 8) :=
  (dispatchLeft_keeps m c main_call0_v0_2 (by decide)).trans <| (between_keeps m c main_call0_v0_2 (by decide)).trans <|
    (Pipeline.afterRegion_arr (gateDat m c) (launched m c) arr_inj0 4).trans (Gate.stats_arr _ c)

/-- The combine weights by row and token after the second call, -/
theorem combine_left (i : S4096x4096.Idx) : (dispatchLeft m c (Proc.devRef .tc main_call0_v3_0) : FVec Ideal S4096x4096 .f32) i
    = if goal (expert m c) (i 1) = BitVec.ofNat 32 (i 0).val then top (gate (xs m c) (ws m c) (i 1)) else 0 := by
  refine (congrFun (Pipeline.afterRegion_arr (dispatchDat m c) (between m c) arr_inj1 2) i).trans ?_
  rw [Dispatch.weights_arr]
  exact congrArg₂ (fun (a : BitVec 32) (g : EReal) => if a = BitVec.ofNat 32 (i 0).val then g else 0) (addr_eq m c (i 1)) (wgt_eq m c (i 1))

/-- and the marks. -/
theorem marks_left (i : S4096x4096.Idx) : (dispatchLeft m c (Proc.devRef .tc main_call0_v3_1) : IVec S4096x4096 8) i
    = if goal (expert m c) (i 1) = BitVec.ofNat 32 (i 0).val then 1#8 else 0#8 := by
  refine (congrFun (Pipeline.afterRegion_arr (dispatchDat m c) (between m c) arr_inj1 3) i).trans ?_
  rw [Dispatch.marks_arr]
  exact congrArg (fun a : BitVec 32 => if a = BitVec.ofNat 32 (i 0).val then 1#8 else 0#8) (addr_eq m c (i 1))

/-! ## The results -/

/-- The kernel's balance loss. -/
theorem aux_at (j : S_.Idx) : (ending m c (Proc.devRef .tc main_v0_0) : FVec Ideal S_ .f32) j
    = (∑ e, ((upto (expert m c) 4096 e : ℝ) : EReal) * ∑ t, gate (xs m c) (ws m c) t e) * ((1 / 262144 : ℝ) : EReal) := by
  refine (congrFun (ending_v0 (dispatchLeft m c)) j).trans ((corner_read _ _ _ j).trans ?_)
  rw [stats_eq]
  exact Gate.stats_arr_loss _ c 0

/-- The kernel's count of an expert's tokens. -/
theorem counts_at (e : Fin 64) : (ending m c (Proc.devRef .tc main_v0_3) : IVec S64 32) (ix1 e) = BitVec.ofNat 32 (upto (expert m c) 4096 e) := by
  refine (congrFun (ending_v3 (dispatchLeft m c)) (ix1 e)).trans ?_
  refine (congrArg (Ideal.fptosi 32) ((column_read _ slices_S64x8_S64x1_0_0 shapeCasts_S64x1_S64 e).trans ?_)).trans (Gate.fptosi_nat _ (upto_le _ _ _))
  rw [stats_eq]
  exact Gate.stats_arr_count _ c e

/-- The kernel's combine weight of a token at an expert's slot. -/
theorem combine_at (t : Fin 4096) (e s : Fin 64) : (ending m c (Proc.devRef .tc main_v0_1) : FVec Ideal S4096x64x64 .f32) (ix3 t e s)
    = if expert m c t = e ∧ place (expert m c) t = s.val then top (gate (xs m c) (ws m c) t) else 0 := by
  refine (congrFun (ending_v1 (dispatchLeft m c)) (ix3 t e s)).trans ((row_read _ _ _ t e s).trans ?_)
  refine (combine_left m c (ix2 (rowOf e s) t)).trans ?_
  exact if_congr (goal_eq_iff (expert m c) t e s) rfl rfl

/-- The kernel's mask of a token at an expert's slot. -/
theorem mask_at (t : Fin 4096) (e s : Fin 64) : (ending m c (Proc.devRef .tc main_v0_2) : IVec S4096x64x64 1) (ix3 t e s)
    = if expert m c t = e ∧ place (expert m c) t = s.val then 1#1 else 0#1 := by
  refine (congrFun (ending_v2 (dispatchLeft m c)) (ix3 t e s)).trans ?_
  have h := (row_read (dispatchLeft m c (Proc.devRef .tc main_call0_v3_1) : IVec S4096x4096 8) shapeCasts_S4096x4096_S64x64x4096
    transposes_S64x64x4096_S4096x64x64_2_0_1 t e s).trans ((marks_left m c (ix2 (rowOf e s) t)).trans (if_congr (goal_eq_iff (expert m c) t e s) rfl rfl))
  refine (congrArg (fun a : BitVec 8 => IntOp.cmpi .ne a 0#8) h).trans ?_
  by_cases q : expert m c t = e ∧ place (expert m c) t = s.val
  · rw [if_pos q, if_pos q]; rfl
  · rw [if_neg q, if_neg q]; rfl

end Cert.KernelIdeal.Whole

end
-- ==== Proof.RefRun.lean ====
/-
  The reference's run. Its operations stand in five stretches: the gates, the mask of chosen experts, the counts
  and the auxiliary loss, the tokens kept under the capacity, the combine weights and the dispatch mask. Each stretch
  is read off at the buffers later stretches use, as a named function of the buffers it starts from.
-/
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.StableHlo.RunHlo
public import Idealize.ShloMosaic.Lib.Quiescent

@[expose] public section

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The pairing of a row number with a column number. -/
def pairUp : IVec S64x64x1 32 → IVec S64x64x1 32 → IVec S64x64x2 32 :=
  fun a b => concatenate S64x64x2 2 [⟨S64x64x1, a⟩, ⟨S64x64x1, b⟩] concatenates_S64x64x1_S64x64x1_S64x64x2_d2

/-! ## What each stretch computes -/

/-- The logits, -/
def logits (x : FVec F S4096x4096 .f32) (w : FVec F S64x4096 .f32) : FVec F S4096x64 .f32 :=
  Host.dotGeneral dot_S4096x4096_S4096x64_S4096x64_1_0_0_1_n_n none x (transpose S4096x64 [1, 0] w transposes_S64x4096_S4096x64_1_0)

/-- each token's largest, -/
def rowMax (l : FVec F S4096x64 .f32) : FVec F S4096 .f32 :=
  maximumf (broadcastInDim S4096 ![] bcast_S_S4096 (constant S_ .f32 0xFF800000#32))
    (Host.reduce FloatOps.maximumf l (constant S_ .f32 0xFF800000#32) reducesTo_S4096x64_S4096_d1 h_S_)

/-- a token's number on all its experts, -/
def spread {α : Type} (v : S4096.Idx → α) : S4096x64.Idx → α :=
  broadcastInDim S4096x64 ![0, 1] bcast_S4096x1_S4096x64_0_1 (broadcastInDim S4096x1 ![0] bcast_S4096_S4096x1_0 v)

/-- the exponentials, -/
def exps (l : FVec F S4096x64 .f32) : FVec F S4096x64 .f32 := Host.exp (subf l (spread (rowMax l)))

/-- the gates of given logits, -/
def softmax (l : FVec F S4096x64 .f32) : FVec F S4096x64 .f32 :=
  Host.divf (exps l) (spread (Host.reduceAdd (exps l) (constant S_ .f32 0x00000000#32) reducesTo_S4096x64_S4096_d1 h_S_))

/-- the gates. -/
def gates (x : FVec F S4096x4096 .f32) (w : FVec F S64x4096 .f32) : FVec F S4096x64 .f32 := softmax (logits x w)

/-- Every expert's number on every token. -/
def numbers : IVec S4096x64 32 :=
  broadcastInDim S4096x64 ![0, 1] bcast_S1x64_S4096x64_0_1 (broadcastInDim S1x64 ![1] bcast_S64_S1x64_1 (iotaInDim S64 32 0))

/-- Each token's expert, -/
def chosen (g : FVec F S4096x64 .f32) : IVec S4096 32 := fun j =>
  (Host.argReduce reducer_argmax_f32_i32 g (iotaInDim S4096x64 32 1) (constant S_ .f32 0xFF800000#32) (constantI S_ 32 0#32)
    reducesTo_S4096x64_S4096_d1 h_S_ j).2

/-- the mask of a choice. -/
def mask (e : IVec S4096 32) : IVec S4096x64 32 := extui 32 (cmpi .eq (spread e) numbers) natLt_1_32

/-- The tokens of each expert, -/
def counts (k : IVec S4096x64 32) : IVec S64 32 :=
  Host.reduce IntOp.addi k (constantI S_ 32 0#32) reducesTo_S4096x64_S64_d0 h_S_

/-- a mean over the tokens, -/
def mean (a : FVec F S4096x64 .f32) : FVec F S64 .f32 :=
  Host.divf (Host.reduceAdd a (constant S_ .f32 0x00000000#32) reducesTo_S4096x64_S64_d0 h_S_)
    (broadcastInDim S64 ![] bcast_S_S64 (constant S_ .f32 0x45800000#32))

/-- the auxiliary loss. -/
def loss (g : FVec F S4096x64 .f32) (k : IVec S4096x64 32) : FVec F S_ .f32 :=
  mulf (Host.reduceAdd (mulf (mean g) (mean (sitofp .f32 k))) (constant S_ .f32 0x00000000#32) reducesTo_S64_S_d0 h_S_)
    (constant S_ .f32 0x42800000#32)

/-- The tokens the capacity keeps, 64 an expert, in the order of their numbers (row a rank, column an expert), -/
def kept (k : IVec S4096x64 32) : IVec S64x64 32 :=
  transpose S64x64 [1, 0] (Host.topK S64x64 1 (IntOp.cmpi .sgt) (transpose S64x4096 [1, 0] k transposes_S4096x64_S64x4096_1_0)
    sliceFits_S64x4096_S64x64).2 transposes_S64x64_S64x64_1_0

/-- a number counted from the end where negative, the rows, -/
def rows (r : IVec S64x64 32) : IVec S64x64 32 :=
  select (cmpi .slt r (broadcastInDim S64x64 ![] bcast_S_S64x64 (constantI S_ 32 0#32)))
    (addi r (broadcastInDim S64x64 ![] bcast_S_S64x64 (constantI S_ 32 4096#32))) r

/-- the experts' numbers, -/
def row64 : IVec S1x64 32 := broadcastInDim S1x64 ![1] bcast_S64_S1x64_1 (iotaInDim S64 32 0)

/-- and the columns, -/
def columns : IVec S64x64 32 :=
  broadcastInDim S64x64 ![0, 1] bcast_S1x64_S64x64_0_1
    (select (cmpi .slt row64 (broadcastInDim S1x64 ![] bcast_S_S1x64 (constantI S_ 32 0#32)))
      (addi row64 (broadcastInDim S1x64 ![] bcast_S_S1x64 (constantI S_ 32 64#32))) row64)

/-- where the ones go, -/
def places (r : IVec S64x64 32) : IVec S64x64x2 32 :=
  pairUp (broadcastInDim S64x64x1 ![0, 1] bcast_S64x64_S64x64x1_0_1 (rows r))
    (broadcastInDim S64x64x1 ![0, 1] bcast_S64x64_S64x64x1_0_1 columns)

/-- the mask of the kept tokens, -/
def keptMask (k : IVec S4096x64 32) : IVec S4096x64 32 :=
  Host.scatter scatter_S4096x64_S64x64x2_S64x64_n_01_01_2 (fun _ b => b)
    (broadcastInDim S4096x64 ![] bcast_S_S4096x64 (constantI S_ 32 0#32)) (places (kept k))
    (broadcastInDim S64x64 ![] bcast_S_S64x64 (constantI S_ 32 1#32))

/-- and of the chosen among them. -/
def limited (k : IVec S4096x64 32) : IVec S4096x64 32 := muli k (keptMask k)

/-- Running counts, -/
def running (k : IVec S4096x64 32) : IVec S4096x64 32 :=
  Host.reduceWindow IntOp.addi ![4096, 1] ![1, 1] ![4095, 0] ![0, 0] k (broadcastInDim S_ ![] bcast_S_S_ (constantI S_ 32 0#32))
    reduceWindows_S4096x64_S4096x64_w4096s1p4095_0_w1s1p0_0 h_S_

/-- each token's place at its expert, -/
def location (k : IVec S4096x64 32) : IVec S4096 32 :=
  Host.reduce IntOp.addi (muli (subi (running k) (broadcastInDim S4096x64 ![] bcast_S_S4096x64 (constantI S_ 32 1#32))) k)
    (constantI S_ 32 0#32) reducesTo_S4096x64_S4096_d1 h_S_

/-- the combine weights, -/
def combine (g : FVec F S4096x64 .f32) (k : IVec S4096x64 32) : FVec F S4096x64x64 .f32 :=
  mulf
    (broadcastInDim S4096x64x64 ![0, 1, 2] bcast_S4096x64x1_S4096x64x64_0_1_2
      (broadcastInDim S4096x64x1 ![0, 1] bcast_S4096x64_S4096x64x1_0_1 (mulf g (sitofp .f32 k))))
    (broadcastInDim S4096x64x64 ![0, 1, 2] bcast_S4096x1x64_S4096x64x64_0_1_2
      (broadcastInDim S4096x1x64 ![0, 2] bcast_S4096x64_S4096x1x64_0_2 (uitofp .f32 (cmpi .eq (spread (location k)) numbers))))

/-- and where they are not zero. -/
def dispatched (a : FVec F S4096x64x64 .f32) : IVec S4096x64x64 1 :=
  cmpf .une a (broadcastInDim S4096x64x64 ![] bcast_S_S4096x64x64 (constant S_ .f32 0x00000000#32))

/-! ## The operations -/

abbrev gateOps : List (HloOp τ sig (Elt F)) :=
  [ unary main_arg1 main_v0 ((transpose S4096x64 [1, 0] · transposes_S64x4096_S4096x64_1_0) : (⟨S64x4096, .f32⟩ : BufTy).Contents (Elt F) → (⟨S4096x64, .f32⟩ : BufTy).Contents (Elt F)),
    binary main_arg0 main_v0 main_v1 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    nullary main_cst (constant S_ .f32 0xFF800000#32),
    binary main_v1 main_cst main_v2 ((fun x v => Host.reduce FloatOps.maximumf x v reducesTo_S4096x64_S4096_d1 h_S_) : (⟨S4096x64, .f32⟩ : BufTy).Contents (Elt F) → (⟨S_, .f32⟩ : BufTy).Contents (Elt F) → (⟨S4096, .f32⟩ : BufTy).Contents (Elt F)),
    nullary main_cst_0 (constant S_ .f32 0xFF800000#32),
    unary main_cst_0 main_v3 (broadcastInDim S4096 ![] bcast_S_S4096 : (⟨S_, .f32⟩ : BufTy).Contents (Elt F) → (⟨S4096, .f32⟩ : BufTy).Contents (Elt F)),
    binary main_v3 main_v2 main_v4 (maximumf : (⟨S4096, .f32⟩ : BufTy).Contents (Elt F) → (⟨S4096, .f32⟩ : BufTy).Contents (Elt F) → (⟨S4096, .f32⟩ : BufTy).Contents (Elt F)),
    unary main_v4 main_v5 (broadcastInDim S4096x1 ![0] bcast_S4096_S4096x1_0 : (⟨S4096, .f32⟩ : BufTy).Contents (Elt F) → (⟨S4096x1, .f32⟩ : BufTy).Contents (Elt F)),
    unary main_v5 main_v6 (broadcastInDim S4096x64 ![0, 1] bcast_S4096x1_S4096x64_0_1 : (⟨S4096x1, .f32⟩ : BufTy).Contents (Elt F) → (⟨S4096x64, .f32⟩ : BufTy).Contents (Elt F)),
    binary main_v1 main_v6 main_v7 (subf : (⟨S4096x64, .f32⟩ : BufTy).Contents (Elt F) → (⟨S4096x64, .f32⟩ : BufTy).Contents (Elt F) → (⟨S4096x64, .f32⟩ : BufTy).Contents (Elt F)),
    unary main_v7 main_v8 (Host.exp : (⟨S4096x64, .f32⟩ : BufTy).Contents (Elt F) → (⟨S4096x64, .f32⟩ : BufTy).Contents (Elt F)),
    nullary main_cst_1 (constant S_ .f32 0x00000000#32),
    binary main_v8 main_cst_1 main_v9 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v9 main_v10 (broadcastInDim S4096x1 ![0] bcast_S4096_S4096x1_0 : (⟨S4096, .f32⟩ : BufTy).Contents (Elt F) → (⟨S4096x1, .f32⟩ : BufTy).Contents (Elt F)),
    unary main_v10 main_v11 (broadcastInDim S4096x64 ![0, 1] bcast_S4096x1_S4096x64_0_1 : (⟨S4096x1, .f32⟩ : BufTy).Contents (Elt F) → (⟨S4096x64, .f32⟩ : BufTy).Contents (Elt F)),
    binary main_v8 main_v11 main_v12 (Host.divf : (⟨S4096x64, .f32⟩ : BufTy).Contents (Elt F) → (⟨S4096x64, .f32⟩ : BufTy).Contents (Elt F) → (⟨S4096x64, .f32⟩ : BufTy).Contents (Elt F)) ]

abbrev gateOps_W : List (Ref sig .tc) := [main_v0, main_v1, main_cst, main_v2, main_cst_0, main_v3, main_v4, main_v5, main_v6, main_v7, main_v8, main_cst_1, main_v9, main_v10, main_v11, main_v12]

theorem gateOps_sub : (gateOps : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

abbrev maskOps : List (HloOp τ sig (Elt F)) :=
  [ TRef.nullary (TRef.of (T := ⟨S4096x64, .i32⟩) main_call0_v0) (iotaInDim S4096x64 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S4096x64, .f32⟩) main_v12) (TRef.of (T := ⟨S4096x64, .i32⟩) main_call0_v0) (TRef.of (T := ⟨S_, .f32⟩) main_call0_cst) (TRef.of (T := ⟨S_, .i32⟩) main_call0_c) (TRef.of (T := ⟨S4096, .f32⟩) main_call0_v1_0) (fun x y u v j => (Host.argReduce reducer_argmax_f32_i32 x y u v reducesTo_S4096x64_S4096_d1 h_S_ j).1),
    TRef.quaternary (TRef.of (T := ⟨S4096x64, .f32⟩) main_v12) (TRef.of (T := ⟨S4096x64, .i32⟩) main_call0_v0) (TRef.of (T := ⟨S_, .f32⟩) main_call0_cst) (TRef.of (T := ⟨S_, .i32⟩) main_call0_c) (TRef.of (T := ⟨S4096, .i32⟩) main_v13) (fun x y u v j => (Host.argReduce reducer_argmax_f32_i32 x y u v reducesTo_S4096x64_S4096_d1 h_S_ j).2),
    unary main_v13 main_v14 (broadcastInDim S4096x1 ![0] bcast_S4096_S4096x1_0 : (⟨S4096, .i32⟩ : BufTy).Contents (Elt F) → (⟨S4096x1, .i32⟩ : BufTy).Contents (Elt F)),
    nullary main_v15 (iotaInDim S64 32 0),
    unary main_v15 main_v16 (broadcastInDim S1x64 ![1] bcast_S64_S1x64_1 : (⟨S64, .i32⟩ : BufTy).Contents (Elt F) → (⟨S1x64, .i32⟩ : BufTy).Contents (Elt F)),
    unary main_v14 main_v17 (broadcastInDim S4096x64 ![0, 1] bcast_S4096x1_S4096x64_0_1 : (⟨S4096x1, .i32⟩ : BufTy).Contents (Elt F) → (⟨S4096x64, .i32⟩ : BufTy).Contents (Elt F)),
    unary main_v16 main_v18 (broadcastInDim S4096x64 ![0, 1] bcast_S1x64_S4096x64_0_1 : (⟨S1x64, .i32⟩ : BufTy).Contents (Elt F) → (⟨S4096x64, .i32⟩ : BufTy).Contents (Elt F)),
    binary main_v17 main_v18 main_v19 (cmpi .eq : (⟨S4096x64, .i32⟩ : BufTy).Contents (Elt F) → (⟨S4096x64, .i32⟩ : BufTy).Contents (Elt F) → (⟨S4096x64, .i1⟩ : BufTy).Contents (Elt F)),
    unary main_v19 main_v20 ((extui 32 · natLt_1_32) : (⟨S4096x64, .i1⟩ : BufTy).Contents (Elt F) → (⟨S4096x64, .i32⟩ : BufTy).Contents (Elt F)) ]

abbrev maskOps_W : List (Ref sig .tc) := [main_call0_v0, main_call0_cst, main_call0_c, main_call0_v1_0, main_v13, main_v14, main_v15, main_v16, main_v17, main_v18, main_v19, main_v20]

theorem maskOps_sub : (maskOps : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., unary_bufs_sub .., binary_bufs_sub .., unary_bufs_sub ..⟩

abbrev auxOps : List (HloOp τ sig (Elt F)) :=
  [ nullary main_c (constantI S_ 32 0#32),
    binary main_v20 main_c main_v21 ((fun x v => Host.reduce IntOp.addi x v reducesTo_S4096x64_S64_d0 h_S_) : (⟨S4096x64, .i32⟩ : BufTy).Contents (Elt F) → (⟨S_, .i32⟩ : BufTy).Contents (Elt F) → (⟨S64, .i32⟩ : BufTy).Contents (Elt F)),
    nullary main_cst_2 (constant S_ .f32 0x00000000#32),
    binary main_v12 main_cst_2 main_v22 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
    nullary main_cst_3 (constant S_ .f32 0x45800000#32),
    unary main_cst_3 main_v23 (broadcastInDim S64 ![] bcast_S_S64 : (⟨S_, .f32⟩ : BufTy).Contents (Elt F) → (⟨S64, .f32⟩ : BufTy).Contents (Elt F)),
    binary main_v22 main_v23 main_v24 (Host.divf : (⟨S64, .f32⟩ : BufTy).Contents (Elt F) → (⟨S64, .f32⟩ : BufTy).Contents (Elt F) → (⟨S64, .f32⟩ : BufTy).Contents (Elt F)),
    unary main_v20 main_v25 (sitofp .f32 : (⟨S4096x64, .i32⟩ : BufTy).Contents (Elt F) → (⟨S4096x64, .f32⟩ : BufTy).Contents (Elt F)),
    nullary main_cst_4 (constant S_ .f32 0x00000000#32),
    binary main_v25 main_cst_4 main_v26 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
    nullary main_cst_5 (constant S_ .f32 0x45800000#32),
    unary main_cst_5 main_v27 (broadcastInDim S64 ![] bcast_S_S64 : (⟨S_, .f32⟩ : BufTy).Contents (Elt F) → (⟨S64, .f32⟩ : BufTy).Contents (Elt F)),
    binary main_v26 main_v27 main_v28 (Host.divf : (⟨S64, .f32⟩ : BufTy).Contents (Elt F) → (⟨S64, .f32⟩ : BufTy).Contents (Elt F) → (⟨S64, .f32⟩ : BufTy).Contents (Elt F)),
    binary main_v24 main_v28 main_v29 (mulf : (⟨S64, .f32⟩ : BufTy).Contents (Elt F) → (⟨S64, .f32⟩ : BufTy).Contents (Elt F) → (⟨S64, .f32⟩ : BufTy).Contents (Elt F)),
    nullary main_cst_6 (constant S_ .f32 0x00000000#32),
    binary main_v29 main_cst_6 main_v30 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_7 (constant S_ .f32 0x42800000#32),
    binary main_v30 main_cst_7 main_v31 (mulf : (⟨S_, .f32⟩ : BufTy).Contents (Elt F) → (⟨S_, .f32⟩ : BufTy).Contents (Elt F) → (⟨S_, .f32⟩ : BufTy).Contents (Elt F)) ]

abbrev auxOps_W : List (Ref sig .tc) := [main_c, main_v21, main_cst_2, main_v22, main_cst_3, main_v23, main_v24, main_v25, main_cst_4, main_v26, main_cst_5, main_v27, main_v28, main_v29, main_cst_6, main_v30, main_cst_7, main_v31]

theorem auxOps_sub : (auxOps : List (HloOp τ sig (Elt F))).Forall fun op => op.bufs ⊆ tcRefs τ sig :=
  ⟨nullary_bufs_sub .., binary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., binary_bufs_sub .., nullary_bufs_sub .., binary_bufs_sub .., nullary_bufs_sub .., binary_bufs_sub ..⟩

abbrev keptOps : List (HloOp τ sig (Elt F)) :=
  [ unary main_v20 main_v32 ((transpose S64x4096 [1, 0] · transposes_S4096x64_S64x4096_1_0) : (⟨S4096x64, .i32⟩ : BufTy).Contents (Elt F) → (⟨S64x4096, .i32⟩ : BufTy).Contents (Elt F)),
    unary main_v32 main_values ((fun x => (Host.topK S64x64 1 (IntOp.cmpi .sgt) x sliceFits_S64x4096_S64x64).1) : (⟨S64x4096, .i32⟩ : BufTy).Contents (Elt F) → (⟨S64x64, .i32⟩ : BufTy).Contents (Elt F)),
    unary main_v32 main_indices ((fun x => (Host.topK S64x64 1 (IntOp.cmpi .sgt) x sliceFits_S64x4096_S64x64).2) : (⟨S64x4096, .i32⟩ : BufTy).Contents (Elt F) → (⟨S64x64, .i32⟩ : BufTy).Contents (Elt F)),
    unary main_indices main_v33 ((transpose S64x64 [1, 0] · transposes_S64x64_S64x64_1_0) : (⟨S64x64, .i32⟩ : BufTy).Contents (Elt F) → (⟨S64x64, .i32⟩ : BufTy).Contents (Elt F)),
    nullary main_c_8 (constantI S_ 32 0#32),
    unary main_c_8 main_v34 (broadcastInDim S4096x64 ![] bcast_S_S4096x64 : (⟨S_, .i32⟩ : BufTy).Contents (Elt F) → (⟨S4096x64, .i32⟩ : BufTy).Contents (Elt F)),
    nullary main_v35 (iotaInDim S64 32 0),
    unary main_v35 main_v36 (broadcastInDim S1x64 ![1] bcast_S64_S1x64_1 : (⟨S64, .i32⟩ : BufTy).Contents (Elt F) → (⟨S1x64, .i32⟩ : BufTy).Contents (Elt F)),
    nullary main_c_9 (constantI S_ 32 0#32),
    unary main_c_9 main_v37 (broadcastInDim S64x64 ![] bcast_S_S64x64 : (⟨S_, .i32⟩ : BufTy).Contents (Elt F) → (⟨S64x64, .i32⟩ : BufTy).Contents (Elt F)),
    binary main_v33 main_v37 main_v38 (cmpi .slt : (⟨S64x64, .i32⟩ : BufTy).Contents (Elt F) → (⟨S64x64, .i32⟩ : BufTy).Contents (Elt F) → (⟨S64x64, .i1⟩ : BufTy).Contents (Elt F)),
    nullary main_c_10 (constantI S_ 32 4096#32),
    unary main_c_10 main_v39 (broadcastInDim S64x64 ![] bcast_S_S64x64 : (⟨S_, .i32⟩ : BufTy).Contents (Elt F) → (⟨S64x64, .i32⟩ : BufTy).Contents (Elt F)),
    binary main_v33 main_v39 main_v40 (addi : (⟨S64x64, .i32⟩ : BufTy).Contents (Elt F) → (⟨S64x64, .i32⟩ : BufTy).Contents (Elt F) → (⟨S64x64, .i32⟩ : BufTy).Contents (Elt F)),
    ternary main_v38 main_v40 main_v33 main_v41 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    nullary main_c_11 (constantI S_ 32 0#32),
    unary main_c_11 main_v42 (broadcastInDim S1x64 ![] bcast_S_S1x64 : (⟨S_, .i32⟩ : BufTy).Contents (Elt F) → (⟨S1x64, .i32⟩ : BufTy).Contents (Elt F)),
    binary main_v36 main_v42 main_v43 (cmpi .slt : (⟨S1x64, .i32⟩ : BufTy).Contents (Elt F) → (⟨S1x64, .i32⟩ : BufTy).Contents (Elt F) → (⟨S1x64, .i1⟩ : BufTy).Contents (Elt F)),
    nullary main_c_12 (constantI S_ 32 64#32),
    unary main_c_12 main_v44 (broadcastInDim S1x64 ![] bcast_S_S1x64 : (⟨S_, .i32⟩ : BufTy).Contents (Elt F) → (⟨S1x64, .i32⟩ : BufTy).Contents (Elt F)),
    binary main_v36 main_v44 main_v45 (addi : (⟨S1x64, .i32⟩ : BufTy).Contents (Elt F) → (⟨S1x64, .i32⟩ : BufTy).Contents (Elt F) → (⟨S1x64, .i32⟩ : BufTy).Contents (Elt F)),
    ternary main_v43 main_v45 main_v36 main_v46 (select : (⟨S1x64, .i1⟩ : BufTy).Contents (Elt F) → (⟨S1x64, .i32⟩ : BufTy).Contents (Elt F) → (⟨S1x64, .i32⟩ : BufTy).Contents (Elt F) → (⟨S1x64, .i32⟩ : BufTy).Contents (Elt F)),
    unary main_v46 main_v47 (broadcastInDim S64x64 ![0, 1] bcast_S1x64_S64x64_0_1 : (⟨S1x64, .i32⟩ : BufTy).Contents (Elt F) → (⟨S64x64, .i32⟩ : BufTy).Contents (Elt F)),
    unary main_v41 main_v48 (broadcastInDim S64x64x1 ![0, 1] bcast_S64x64_S64x64x1_0_1 : (⟨S64x64, .i32⟩ : BufTy).Contents (Elt F) → (⟨S64x64x1, .i32⟩ : BufTy).Contents (Elt F)),
    unary main_v47 main_v49 (broadcastInDim S64x64x1 ![0, 1] bcast_S64x64_S64x64x1_0_1 : (⟨S64x64, .i32⟩ : BufTy).Contents (Elt F) → (⟨S64x64x1, .i32⟩ : BufTy).Contents (Elt F)),
    binary main_v48 main_v49 main_v50 pairUp,
    nullary main_c_13 (constantI S_ 32 1#32),
    unary main_c_13 main_v51 (broadcastInDim S64x64 ![] bcast_S_S64x64 : (⟨S_, .i32⟩ : BufTy).Contents (Elt F) → (⟨S64x64, .i32⟩ : BufTy).Contents (Elt F)),
    ternary main_v34 main_v50 main_v51 main_v52 ((fun x i u => Host.scatter scatter_S4096x64_S64x64x2_S64x64_n_01_01_2 (fun _ b => b) x i u) : (⟨S4096x64, .i32⟩ : BufTy).Contents (Elt F) → (⟨S64x64x2, .i32⟩ : BufTy).Contents (Elt F) → (⟨S64x64, .i32⟩ : BufTy).Contents (Elt F) → (⟨S4096x64, .i32⟩ : BufTy).Contents (Elt F)),
    binary main_v20 main_v52 main_v53 (muli : (⟨S4096x64, .i32⟩ : BufTy).Contents (Elt F) → (⟨S4096x64, .i32⟩ : BufTy).Contents (Elt F) → (⟨S4096x64, .i32⟩ : BufTy).Contents (Elt F)) ]

abbrev keptOps_W : List (Ref sig .tc) := [main_v32, main_values, main_indices, main_v33, main_c_8, main_v34, main_v35, main_v36, main_c_9, main_v37, main_v38, main_c_10, main_v39, main_v40, main_v41, main_c_11, main_v42, main_v43, main_c_12, main_v44, main_v45, main_v46, main_v47, main_v48, main_v49, main_v50, main_c_13, main_v51, main_v52, main_v53]

theorem keptOps_sub : (keptOps : List (HloOp τ sig (Elt F))).Forall fun op => op.bufs ⊆ tcRefs τ sig :=
  ⟨unary_bufs_sub .., unary_bufs_sub .., unary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., binary_bufs_sub ..⟩

abbrev combineOps : List (HloOp τ sig (Elt F)) :=
  [ TRef.nullary (TRef.of (T := ⟨S_, .i32⟩) main_call1_call0_c) (constantI S_ 32 0#32),
    TRef.unary (TRef.of (T := ⟨S_, .i32⟩) main_call1_call0_c) (TRef.of (T := ⟨S_, .i32⟩) main_call1_call0_v0) (broadcastInDim S_ ![] bcast_S_S_),
    TRef.binary (TRef.of (T := ⟨S4096x64, .i32⟩) main_v53) (TRef.of (T := ⟨S_, .i32⟩) main_call1_call0_v0) (TRef.of (T := ⟨S4096x64, .i32⟩) main_v54) (fun x v => Host.reduceWindow IntOp.addi ![4096, 1] ![1, 1] ![4095, 0] ![0, 0] x v reduceWindows_S4096x64_S4096x64_w4096s1p4095_0_w1s1p0_0 h_S_),
    nullary main_c_14 (constantI S_ 32 1#32),
    unary main_c_14 main_v55 (broadcastInDim S4096x64 ![] bcast_S_S4096x64 : (⟨S_, .i32⟩ : BufTy).Contents (Elt F) → (⟨S4096x64, .i32⟩ : BufTy).Contents (Elt F)),
    binary main_v54 main_v55 main_v56 (subi : (⟨S4096x64, .i32⟩ : BufTy).Contents (Elt F) → (⟨S4096x64, .i32⟩ : BufTy).Contents (Elt F) → (⟨S4096x64, .i32⟩ : BufTy).Contents (Elt F)),
    binary main_v56 main_v53 main_v57 (muli : (⟨S4096x64, .i32⟩ : BufTy).Contents (Elt F) → (⟨S4096x64, .i32⟩ : BufTy).Contents (Elt F) → (⟨S4096x64, .i32⟩ : BufTy).Contents (Elt F)),
    nullary main_c_15 (constantI S_ 32 0#32),
    binary main_v57 main_c_15 main_v58 ((fun x v => Host.reduce IntOp.addi x v reducesTo_S4096x64_S4096_d1 h_S_) : (⟨S4096x64, .i32⟩ : BufTy).Contents (Elt F) → (⟨S_, .i32⟩ : BufTy).Contents (Elt F) → (⟨S4096, .i32⟩ : BufTy).Contents (Elt F)),
    unary main_v53 main_v59 (sitofp .f32 : (⟨S4096x64, .i32⟩ : BufTy).Contents (Elt F) → (⟨S4096x64, .f32⟩ : BufTy).Contents (Elt F)),
    binary main_v12 main_v59 main_v60 (mulf : (⟨S4096x64, .f32⟩ : BufTy).Contents (Elt F) → (⟨S4096x64, .f32⟩ : BufTy).Contents (Elt F) → (⟨S4096x64, .f32⟩ : BufTy).Contents (Elt F)),
    unary main_v58 main_v61 (broadcastInDim S4096x1 ![0] bcast_S4096_S4096x1_0 : (⟨S4096, .i32⟩ : BufTy).Contents (Elt F) → (⟨S4096x1, .i32⟩ : BufTy).Contents (Elt F)),
    nullary main_v62 (iotaInDim S64 32 0),
    unary main_v62 main_v63 (broadcastInDim S1x64 ![1] bcast_S64_S1x64_1 : (⟨S64, .i32⟩ : BufTy).Contents (Elt F) → (⟨S1x64, .i32⟩ : BufTy).Contents (Elt F)),
    unary main_v61 main_v64 (broadcastInDim S4096x64 ![0, 1] bcast_S4096x1_S4096x64_0_1 : (⟨S4096x1, .i32⟩ : BufTy).Contents (Elt F) → (⟨S4096x64, .i32⟩ : BufTy).Contents (Elt F)),
    unary main_v63 main_v65 (broadcastInDim S4096x64 ![0, 1] bcast_S1x64_S4096x64_0_1 : (⟨S1x64, .i32⟩ : BufTy).Contents (Elt F) → (⟨S4096x64, .i32⟩ : BufTy).Contents (Elt F)),
    binary main_v64 main_v65 main_v66 (cmpi .eq : (⟨S4096x64, .i32⟩ : BufTy).Contents (Elt F) → (⟨S4096x64, .i32⟩ : BufTy).Contents (Elt F) → (⟨S4096x64, .i1⟩ : BufTy).Contents (Elt F)),
    unary main_v66 main_v67 (uitofp .f32 : (⟨S4096x64, .i1⟩ : BufTy).Contents (Elt F) → (⟨S4096x64, .f32⟩ : BufTy).Contents (Elt F)),
    unary main_v60 main_v68 (broadcastInDim S4096x64x1 ![0, 1] bcast_S4096x64_S4096x64x1_0_1 : (⟨S4096x64, .f32⟩ : BufTy).Contents (Elt F) → (⟨S4096x64x1, .f32⟩ : BufTy).Contents (Elt F)),
    unary main_v67 main_v69 (broadcastInDim S4096x1x64 ![0, 2] bcast_S4096x64_S4096x1x64_0_2 : (⟨S4096x64, .f32⟩ : BufTy).Contents (Elt F) → (⟨S4096x1x64, .f32⟩ : BufTy).Contents (Elt F)),
    unary main_v68 main_v70 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    unary main_v69 main_v71 (broadcastInDim S4096x64x64 ![0, 1, 2] bcast_S4096x1x64_S4096x64x64_0_1_2 : (⟨S4096x1x64, .f32⟩ : BufTy).Contents (Elt F) → (⟨S4096x64x64, .f32⟩ : BufTy).Contents (Elt F)),
    binary main_v70 main_v71 main_v72 (mulf : (⟨S4096x64x64, .f32⟩ : BufTy).Contents (Elt F) → (⟨S4096x64x64, .f32⟩ : BufTy).Contents (Elt F) → (⟨S4096x64x64, .f32⟩ : BufTy).Contents (Elt F)),
    nullary main_cst_16 (constant S_ .f32 0x00000000#32),
    unary main_cst_16 main_v73 (broadcastInDim S4096x64x64 ![] bcast_S_S4096x64x64 : (⟨S_, .f32⟩ : BufTy).Contents (Elt F) → (⟨S4096x64x64, .f32⟩ : BufTy).Contents (Elt F)),
    binary main_v72 main_v73 main_v74 (cmpf .une : (⟨S4096x64x64, .f32⟩ : BufTy).Contents (Elt F) → (⟨S4096x64x64, .f32⟩ : BufTy).Contents (Elt F) → (⟨S4096x64x64, .i1⟩ : BufTy).Contents (Elt F)),
    unary main_v74 main_v75 (id : (⟨S4096x64x64, .i1⟩ : BufTy).Contents (Elt F) → (⟨S4096x64x64, .i1⟩ : BufTy).Contents (Elt F)) ]

abbrev combineOps_W : List (Ref sig .tc) := [main_call1_call0_c, main_call1_call0_v0, main_v54, main_c_14, main_v55, main_v56, main_v57, main_c_15, main_v58, main_v59, main_v60, main_v61, main_v62, main_v63, main_v64, main_v65, main_v66, main_v67, main_v68, main_v69, main_v70, main_v71, main_v72, main_cst_16, main_v73, main_v74, main_v75]

theorem combineOps_sub : (combineOps : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., binary_bufs_sub .., unary_bufs_sub .., binary_bufs_sub .., unary_bufs_sub .., nullary_bufs_sub .., unary_bufs_sub .., unary_bufs_sub .., unary_bufs_sub .., binary_bufs_sub .., unary_bufs_sub .., unary_bufs_sub .., unary_bufs_sub .., unary_bufs_sub .., unary_bufs_sub .., binary_bufs_sub .., nullary_bufs_sub .., unary_bufs_sub .., binary_bufs_sub .., unary_bufs_sub ..⟩

/-! ## Each stretch read off -/

variable (V : Valuation τ sig (Elt F))

theorem gateOps_v12 : after gateOps V (Proc.devRef .tc main_v12)
    = gates (V (Proc.devRef .tc main_arg0)) (V (Proc.devRef .tc main_arg1)) := by
  simp only [gateOps]; after_results_simp
  unfold gates softmax exps rowMax spread logits; with_reducible rfl

theorem maskOps_v20 : after maskOps V (Proc.devRef .tc main_v20) = mask (chosen (V (Proc.devRef .tc main_v12))) := by
  simp only [maskOps, TRef.nullary, TRef.quaternary, TRef.toBuf, TRef.ofBuf, cast_eq]; after_results_simp
  unfold mask chosen spread numbers; with_reducible rfl

theorem auxOps_v21 : after auxOps V (Proc.devRef .tc main_v21) = counts (V (Proc.devRef .tc main_v20)) := by
  simp only [auxOps]; after_results_simp
  unfold counts; with_reducible rfl

theorem auxOps_v31 : after auxOps V (Proc.devRef .tc main_v31)
    = loss (V (Proc.devRef .tc main_v12)) (V (Proc.devRef .tc main_v20)) := by
  simp only [auxOps]; after_results_simp
  unfold loss mean; with_reducible rfl

theorem keptOps_v53 : after keptOps V (Proc.devRef .tc main_v53) = limited (V (Proc.devRef .tc main_v20)) := by
  simp only [keptOps]; after_results_simp
  unfold limited keptMask places rows columns kept row64; with_reducible rfl

theorem combineOps_v72 : after combineOps V (Proc.devRef .tc main_v72)
    = combine (V (Proc.devRef .tc main_v12)) (V (Proc.devRef .tc main_v53)) := by
  simp only [combineOps, TRef.nullary, TRef.unary, TRef.binary, TRef.toBuf, TRef.ofBuf, cast_eq]; after_results_simp
  unfold combine location running spread numbers; with_reducible rfl

theorem combineOps_v75 : after combineOps V (Proc.devRef .tc main_v75)
    = dispatched (combine (V (Proc.devRef .tc main_v12)) (V (Proc.devRef .tc main_v53))) := by
  simp only [combineOps, TRef.nullary, TRef.unary, TRef.binary, TRef.toBuf, TRef.ofBuf, cast_eq]; after_results_simp
  unfold dispatched combine location running spread numbers id; with_reducible rfl

/-! ## The run -/

/-- All the operations, in order. -/
abbrev ops : List (HloOp τ sig (Elt F)) := gateOps ++ (maskOps ++ (auxOps ++ (keptOps ++ combineOps)))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨gateOps_sub, List.forall_append.mpr ⟨maskOps_sub, List.forall_append.mpr ⟨auxOps_sub,
    List.forall_append.mpr ⟨keptOps_sub, combineOps_sub⟩⟩⟩⟩

theorem after_app (l l' : List (HloOp τ sig (Elt F))) (V : Valuation τ sig (Elt F)) : after (l ++ l') V = after l' (after l V) := by
  induction l generalizing V with
  | nil => rfl
  | cons op l ih => exact ih _

section
variable (r : Ref sig .tc)
theorem keepA (h : r ∉ gateOps_W) : after gateOps V (Proc.devRef .tc r) = V (Proc.devRef .tc r) :=
  after_of_writes_sub gateOps _ (forall_writes_sub_of_map rfl) h
theorem keepB (h : r ∉ maskOps_W) : after maskOps V (Proc.devRef .tc r) = V (Proc.devRef .tc r) :=
  after_of_writes_sub maskOps _ (forall_writes_sub_of_map rfl) h
theorem keepC (h : r ∉ auxOps_W) : after auxOps V (Proc.devRef .tc r) = V (Proc.devRef .tc r) :=
  after_of_writes_sub auxOps _ (forall_writes_sub_of_map rfl) h
theorem keepD (h : r ∉ keptOps_W) : after keptOps V (Proc.devRef .tc r) = V (Proc.devRef .tc r) :=
  after_of_writes_sub keptOps _ (forall_writes_sub_of_map rfl) h
theorem keepE (h : r ∉ combineOps_W) : after combineOps V (Proc.devRef .tc r) = V (Proc.devRef .tc r) :=
  after_of_writes_sub combineOps _ (forall_writes_sub_of_map rfl) h
end

theorem ops_arg (r : Ref sig .tc) (ha : r ∉ gateOps_W) (hb : r ∉ maskOps_W) (hc : r ∉ auxOps_W) (hd : r ∉ keptOps_W) (he : r ∉ combineOps_W) :
    after ops V (Proc.devRef .tc r) = V (Proc.devRef .tc r) := by
  rw [ops, after_app, after_app, after_app, after_app, keepE _ _ he, keepD _ _ hd, keepC _ _ hc, keepB _ _ hb, keepA _ _ ha]

section
variable (x : FVec F S4096x4096 .f32) (w : FVec F S64x4096 .f32)
/-- The mask of every token's expert, as a function of the arguments. -/
def theMask : IVec S4096x64 32 := mask (chosen (gates x w))
end

theorem ops_v31 : after ops V (Proc.devRef .tc main_v31)
    = loss (gates (V (Proc.devRef .tc main_arg0)) (V (Proc.devRef .tc main_arg1))) (theMask (V (Proc.devRef .tc main_arg0)) (V (Proc.devRef .tc main_arg1))) := by
  rw [ops, after_app, after_app, after_app, after_app, keepE _ _ (by decide), keepD _ _ (by decide), auxOps_v31, maskOps_v20,
    keepB _ _ (by decide), gateOps_v12]
  rfl

theorem ops_v21 : after ops V (Proc.devRef .tc main_v21)
    = counts (theMask (V (Proc.devRef .tc main_arg0)) (V (Proc.devRef .tc main_arg1))) := by
  rw [ops, after_app, after_app, after_app, after_app, keepE _ _ (by decide), keepD _ _ (by decide), auxOps_v21, maskOps_v20, gateOps_v12]
  rfl

theorem ops_v72 : after ops V (Proc.devRef .tc main_v72)
    = combine (gates (V (Proc.devRef .tc main_arg0)) (V (Proc.devRef .tc main_arg1)))
        (limited (theMask (V (Proc.devRef .tc main_arg0)) (V (Proc.devRef .tc main_arg1)))) := by
  rw [ops, after_app, after_app, after_app, after_app, combineOps_v72, keepD _ _ (by decide), keepC _ _ (by decide), keptOps_v53,
    keepC _ _ (by decide), maskOps_v20, keepB _ _ (by decide), gateOps_v12]
  rfl

theorem ops_v75 : after ops V (Proc.devRef .tc main_v75)
    = dispatched (combine (gates (V (Proc.devRef .tc main_arg0)) (V (Proc.devRef .tc main_arg1)))
        (limited (theMask (V (Proc.devRef .tc main_arg0)) (V (Proc.devRef .tc main_arg1))))) := by
  rw [ops, after_app, after_app, after_app, after_app, combineOps_v75, keepD _ _ (by decide), keepC _ _ (by decide), keptOps_v53,
    keepC _ _ (by decide), maskOps_v20, keepB _ _ (by decide), gateOps_v12]
  rfl

variable (m : (ℓ : Loc nD τ sig) → Buf (Elt F) ℓ) (ρ : Dev nD → PrngReg)

/-- The arguments as launched. -/
abbrev argX (c : Dev nD) : FVec F S4096x4096 .f32 := m ((c.tc : Thread nD τ).loc main_arg0)
abbrev argW (c : Dev nD) : FVec F S64x4096 .f32 := m ((c.tc : Thread nD τ).loc main_arg1)

theorem run : θ_run defs (onTc (τ := τ) (main (F := F))) ⟨m, fun _ => 0, ρ⟩ (fun r => ∀ c : Dev nD,
      r.2.mem ((c.tc : Thread nD τ).loc main_v31) = loss (gates (argX m c) (argW m c)) (theMask (argX m c) (argW m c))
      ∧ r.2.mem ((c.tc : Thread nD τ).loc main_v72) = combine (gates (argX m c) (argW m c)) (limited (theMask (argX m c) (argW m c)))
      ∧ r.2.mem ((c.tc : Thread nD τ).loc main_v75) = dispatched (combine (gates (argX m c) (argW m c)) (limited (theMask (argX m c) (argW m c))))
      ∧ r.2.mem ((c.tc : Thread nD τ).loc main_v21) = counts (theMask (argX m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Idealize.ShloMosaic.θ_run_mono (run_seq scopedRefs_eq scopedSems_eq defs main (fun _ => ops) main_eq (fun _ => ops_sub) m ρ)
    fun _ h c => ⟨(h c main_v31).trans (ops_v31 _), (h c main_v72).trans (ops_v72 _), (h c main_v75).trans (ops_v75 _),
      (h c main_v21).trans (ops_v21 _),
      (h c main_arg0).trans (ops_arg _ _ (by decide) (by decide) (by decide) (by decide) (by decide)),
      (h c main_arg1).trans (ops_arg _ _ (by decide) (by decide) (by decide) (by decide) (by decide))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Idealize.ShloMosaic.θ_run_mono (run m ρ) fun r h => ⟨fun c => ⟨(h c).2.2.2.2.1, (h c).2.2.2.2.2⟩, sem_eq_zero_of_no_sems rfl r.2⟩

end Cert.ReferenceIdeal.Run

namespace Cert.Proof

theorem reference_frame : quiescent_ReferenceIdeal (hReferenceIdeal := Cert.ReferenceIdeal.Gen.facts) :=
  fun m g _ => Cert.ReferenceIdeal.Run.frame m g

end Cert.Proof

end
-- ==== Proof.RefGates.lean ====
/-
  The reference's gates, its tokens' experts, their counts and the auxiliary loss, at an index, in plain terms.
-/
module

public import proofs.«01_k».proof.Proof.RefRun
public import proofs.«01_k».proof.Proof.Reading

@[expose] public section

set_option maxRecDepth 8192

noncomputable section

namespace Cert.ReferenceIdeal.Run

open Cert.ReferenceIdeal Cert.ReferenceIdeal.Gen Cert.MoE Idealize.ShloMosaic Idealize.ShloMosaic.ValueIdx

/-- The tokens and the weights by coordinates. -/
def tok (x : FVec Ideal S4096x4096 .f32) (t k : Fin 4096) : EReal := x (ix2 t k)
def wt (w : FVec Ideal S64x4096 .f32) (e : Fin 64) (k : Fin 4096) : EReal := w (ix2 e k)

theorem spread_at {α : Type} (v : S4096.Idx → α) (t : Fin 4096) (e : Fin 64) : spread v (ix2 t e) = v (ix1 t) :=
  Routing.bcRows bcast_S4096_S4096x1_0 bcast_S4096x1_S4096x64_0_1 v t e

theorem numbers_at (t : Fin 4096) (e : Fin 64) : numbers (ix2 t e) = BitVec.ofNat 32 e.val :=
  Routing.bcCols bcast_S64_S1x64_1 bcast_S1x64_S4096x64_0_1 (iotaInDim S64 32 0) t e

theorem reduces_row : (tab 4096 64).Reduces [1] (vec 4096) := by decide
theorem reduces_col : (tab 4096 64).Reduces [0] (vec 64) := by decide

/-! ## The gates -/

theorem logits_at (x : FVec Ideal S4096x4096 .f32) (w : FVec Ideal S64x4096 .f32) (t : Fin 4096) (e : Fin 64) :
    logits x w (ix2 t e) = logit (tok x) (wt w) t e := by
  unfold logits
  rw [← matmul_zero_eq_dotGeneral]
  refine (Ideal.matmul_plain_apply (M := 4096) (K := 4096) (N := 64) none x _ _ t e).trans ?_
  have h0 : (constant S4096x64 .f32 0x00000000#32 : FVec Ideal S4096x64 .f32) (ix2 t e) = 0 := Ideal.ofBits_zero_f32
  rw [h0, zero_add]
  exact Finset.sum_congr rfl fun k _ => congrArg (x (ix2 t k) * ·) (transpose_ix2_apply w transposes_S64x4096_S4096x64_1_0 k e)

theorem rowMax_at (l : FVec Ideal S4096x64 .f32) (t : Fin 4096) : rowMax l (ix1 t) = top fun e => l (ix2 t e) := by
  show max (Ideal.ofBits .f32 0xFF800000#32) (Host.reduce FloatOps.maximumf l (constant S_ .f32 0xFF800000#32) _ _ (ix1 t)) = _
  rw [ofBits_ninf, bot_sup_eq, hostMax_row l _ _ _ reduces_row ofBits_ninf]

theorem exps_at (l : FVec Ideal S4096x64 .f32) (t : Fin 4096) (e : Fin 64) :
    exps l (ix2 t e) = lifted (fun k => l (ix2 t k)) e := by
  show Ideal.exp (l (ix2 t e) - spread (rowMax l) (ix2 t e)) = _
  rw [spread_at, rowMax_at]; rfl

theorem softmax_at (l : FVec Ideal S4096x64 .f32) (t : Fin 4096) (e : Fin 64) :
    softmax l (ix2 t e) = share (fun k => l (ix2 t k)) e := by
  show Ideal.div (exps l (ix2 t e)) (spread _ (ix2 t e)) = _
  rw [spread_at, hostSum_row _ _ _ _ reduces_row Ideal.ofBits_zero_f32, exps_at]
  exact congrArg (Ideal.div _) (Finset.sum_congr rfl fun k _ => exps_at l t k)

/-- The reference's gates, by token and expert. -/
theorem gates_at (x : FVec Ideal S4096x4096 .f32) (w : FVec Ideal S64x4096 .f32) (t : Fin 4096) (e : Fin 64) :
    gates x w (ix2 t e) = gate (tok x) (wt w) t e := by
  unfold gates gate
  rw [softmax_at]
  exact congrArg (share · e) (funext fun k => logits_at x w t k)

/-! ## The experts -/

/-- What holds of a running pair of largest value and place after some of 64 values. -/
def Good (g : Fin 64 → EReal) (S : Fin 64 → Prop) (r : EReal × BitVec 32) : Prop :=
  ∃ e : Fin 64, r.2 = BitVec.ofNat 32 e.val ∧ (∀ k, S k → g k ≤ r.1) ∧ (∀ k, S k → g k = r.1 → e ≤ k)
    ∧ ((S e ∧ g e = r.1) ∨ (r.1 = ⊥ ∧ e = 0))

theorem word_lt (a b : Fin 64) : IntOp.cmpi .slt (BitVec.ofNat 32 a.val) (BitVec.ofNat 32 b.val) = BitVec.ofBool (decide (a < b)) := by
  have := a.isLt
  have := b.isLt
  exact WordCmp.cmpi_slt_ofNat (by omega) (by omega)

theorem reducer_eq (a b : EReal) (i j : Fin 64) :
    reducer_argmax_f32_i32 (F := Ideal) (a, BitVec.ofNat 32 i.val) (b, BitVec.ofNat 32 j.val)
      = (if b < a then a else b, if b < a ∨ (a = b ∧ i < j) then BitVec.ofNat 32 i.val else BitVec.ofNat 32 j.val) := by
  have e1 : FloatOps.cmpf (F := Ideal) (φ := .f32) .ogt a b = BitVec.ofBool (decide (b < a)) := rfl
  have e2 : FloatOps.cmpf (F := Ideal) (φ := .f32) .une a a = BitVec.ofBool false := by
    show BitVec.ofBool (decide (a ≠ a)) = _
    simp
  have e3 : FloatOps.cmpf (F := Ideal) (φ := .f32) .oeq a b = BitVec.ofBool (decide (a = b)) := rfl
  unfold reducer_argmax_f32_i32
  dsimp only
  rw [e1, e2, e3, word_lt]
  by_cases h1 : b < a <;> by_cases h2 : a = b <;> by_cases h3 : i < j <;> simp [h1, h2, h3] <;> exact ⟨rfl, rfl⟩

theorem good_step (g : Fin 64 → EReal) (S : Fin 64 → Prop) (r : EReal × BitVec 32) (a : Fin 64) (h : Good g S r) :
    Good g (fun k => S k ∨ k = a) (reducer_argmax_f32_i32 (F := Ideal) r (g a, BitVec.ofNat 32 a.val)) := by
  obtain ⟨m, i⟩ := r
  obtain ⟨e, rfl, hle, hfirst, hwit⟩ := h
  dsimp only at hle hfirst hwit
  rw [reducer_eq]
  by_cases h1 : g a < m
  · rw [if_pos h1, if_pos (Or.inl h1)]
    refine ⟨e, rfl, ?_, ?_, ?_⟩
    · rintro k (hk | rfl)
      · exact hle k hk
      · exact h1.le
    · rintro k (hk | rfl) hg
      · exact hfirst k hk hg
      · exact absurd hg h1.ne
    · exact hwit.imp_left fun q => ⟨Or.inl q.1, q.2⟩
  · rw [if_neg h1]
    by_cases h2 : m = g a
    · by_cases h3 : e < a
      · rw [if_pos (Or.inr ⟨h2, h3⟩)]
        refine ⟨e, rfl, ?_, ?_, ?_⟩
        · rintro k (hk | rfl)
          · exact h2 ▸ hle k hk
          · exact le_refl _
        · rintro k (hk | rfl) hg
          · exact hfirst k hk (hg.trans h2.symm)
          · exact h3.le
        · exact hwit.imp (fun q => ⟨Or.inl q.1, q.2.trans h2⟩) fun q => ⟨h2 ▸ q.1, q.2⟩
      · rw [if_neg (by rintro (q | q); exacts [h1 q, h3 q.2])]
        refine ⟨a, rfl, ?_, ?_, Or.inl ⟨Or.inr rfl, rfl⟩⟩
        · rintro k (hk | rfl)
          · exact h2 ▸ hle k hk
          · exact le_refl _
        · rintro k (hk | rfl) hg
          · exact (not_lt.1 h3).trans (hfirst k hk (hg.trans h2.symm))
          · exact le_refl _
    · rw [if_neg (by rintro (q | q); exacts [h1 q, h2 q.1])]
      have hlt : m < g a := lt_of_le_of_ne (not_lt.1 h1) h2
      refine ⟨a, rfl, ?_, ?_, Or.inl ⟨Or.inr rfl, rfl⟩⟩
      · rintro k (hk | rfl)
        · exact (hle k hk).trans hlt.le
        · exact le_refl _
      · rintro k (hk | rfl) hg
        · exact absurd hg ((hle k hk).trans_lt hlt).ne
        · exact le_refl _

theorem good_foldl (g : Fin 64 → EReal) {ι : Type} (key : ι → Fin 64) (f : ι → EReal × BitVec 32) (l : List ι)
    (hf : ∀ i ∈ l, f i = (g (key i), BitVec.ofNat 32 (key i).val)) (S : Fin 64 → Prop) (r : EReal × BitVec 32) (h : Good g S r) :
    Good g (fun k => S k ∨ ∃ i ∈ l, key i = k) (l.foldl (fun r i => reducer_argmax_f32_i32 (F := Ideal) r (f i)) r) := by
  induction l generalizing S r with
  | nil => simpa using h
  | cons a l ih =>
    rw [List.foldl_cons, hf a List.mem_cons_self]
    have := ih (fun i hi => hf i (List.mem_cons_of_mem _ hi)) _ _ (good_step g S r (key a) h)
    refine (congrArg (Good g · _) (funext fun k => propext ?_)).mp this
    constructor
    · rintro ((q | rfl) | ⟨i, hi, q⟩)
      · exact Or.inl q
      · exact Or.inr ⟨a, List.mem_cons_self, rfl⟩
      · exact Or.inr ⟨i, List.mem_cons_of_mem _ hi, q⟩
    · rintro (q | ⟨i, hi, q⟩)
      · exact Or.inl (Or.inl q)
      · rcases List.mem_cons.1 hi with rfl | hi
        · exact Or.inl (Or.inr q.symm)
        · exact Or.inr ⟨i, hi, q⟩

theorem good_all (g : Fin 64 → EReal) (S : Fin 64 → Prop) (r : EReal × BitVec 32) (h : Good g S r) (hS : ∀ k, S k) :
    r.2 = BitVec.ofNat 32 (first g).val := by
  obtain ⟨e, he, hle, hfirst, hwit⟩ := h
  have hg : g e = r.1 := by
    rcases hwit with q | ⟨q, rfl⟩
    · exact q.2
    · exact le_antisymm (hle _ (hS _)) (q ▸ bot_le)
  have htop : r.1 = top g := by
    obtain ⟨k, hk⟩ := exists_top g
    exact le_antisymm (hg ▸ val_le_top g e) (hk ▸ hle k (hS k))
  rw [he, eq_first (v := g) (e := e) ⟨hg.trans htop, fun k hk => hfirst k (hS k) (hk.trans htop.symm)⟩]

theorem chosen_at (g : FVec Ideal S4096x64 .f32) (t : Fin 4096) :
    chosen g (ix1 t) = BitVec.ofNat 32 (first fun e => g (ix2 t e)).val := by
  unfold chosen
  rw [Ideal.argReduce_eq_reduce2, Host.reduce2_eq_foldl_fiber]
  unfold Host.argReduceFiber
  rw [List.foldl_map]
  have hdrop : ∀ i : S4096x64.Idx, reducesTo_S4096x64_S4096_d1.drop i = ix1 t ↔ i 0 = t := by
    intro i
    rw [Shape.ReducesTo.drop_eq_drop reducesTo_S4096x64_S4096_d1 reduces_row]
    have hd : reduces_row.drop i = ix1 (i 0) := by
      have h := reduces_row.drop_lift (ix1 (i 0)) (i 1)
      exact (congrArg reduces_row.drop ((eq_ix2 i).trans (lift_row reduces_row (i 0) (i 1)).symm)).trans h
    rw [hd]
    exact ⟨fun q => congrFun q 0, fun q => congrArg ix1 q⟩
  refine good_all (fun e => g (ix2 t e)) _ _ (good_foldl (fun e => g (ix2 t e)) (fun n => (S4096x64.rowMajor.symm n) 1) _ _
    (fun n hn => ?_) (fun _ => False) _ ⟨0, rfl, fun k q => q.elim, fun k q => q.elim, Or.inr ⟨ofBits_ninf, rfl⟩⟩) fun k => Or.inr ?_
  · have hn := (hdrop _).1 (of_decide_eq_true (List.mem_filter.1 hn).2)
    refine Prod.ext ?_ rfl
    exact (congrArg g (eq_ix2 _)).trans (congrArg (fun s => g (ix2 s _)) hn)
  · refine ⟨S4096x64.rowMajor (ix2 t k), List.mem_filter.2 ⟨List.mem_finRange _, decide_eq_true ?_⟩, ?_⟩
    · rw [Equiv.symm_apply_apply, hdrop]
    · rw [Equiv.symm_apply_apply]

/-! ## The mask of a choice, its counts, the loss -/

/-- The mask whose ones are at the experts `c`. -/
def maskOf (c : Fin 4096 → Fin 64) : IVec S4096x64 32 := fun i =>
  (fun (t : Fin 4096) (e : Fin 64) => if c t = e then 1#32 else 0#32) (i 0) (i 1)

theorem mask_eq (e : IVec S4096 32) (c : Fin 4096 → Fin 64) (h : ∀ t, e (ix1 t) = BitVec.ofNat 32 (c t).val) : mask e = maskOf c := by
  funext i
  obtain ⟨t, k, rfl⟩ : ∃ t k, i = ix2 t k := ⟨i 0, i 1, eq_ix2 i⟩
  show (IntOp.cmpi .eq (spread e (ix2 t k)) (numbers (ix2 t k))).setWidth 32 = if c t = k then 1#32 else 0#32
  rw [spread_at, numbers_at, h]
  have h1 := (c t).isLt
  have h2 := k.isLt
  rw [WordCmp.cmpi_eq_ofNat (by omega) (by omega)]
  by_cases q : c t = k
  · rw [if_pos q, q]; simp
  · have : ¬ (c t).val = k.val := fun r => q (Fin.ext r)
    rw [if_neg q]; simp [this]

/-- The experts the gates of `x` and `w` choose. -/
def expert (x : FVec Ideal S4096x4096 .f32) (w : FVec Ideal S64x4096 .f32) (t : Fin 4096) : Fin 64 := first (gate (tok x) (wt w) t)

/-- The reference's mask is one at each token's expert. -/
theorem theMask_eq (x : FVec Ideal S4096x4096 .f32) (w : FVec Ideal S64x4096 .f32) : theMask x w = maskOf (expert x w) :=
  mask_eq _ _ fun t => (chosen_at (gates x w) t).trans
    (congrArg (fun v => BitVec.ofNat 32 (first v).val) (funext fun e => gates_at x w t e))

/-- The reference's count of an expert's tokens. -/
theorem counts_at (c : Fin 4096 → Fin 64) (e : Fin 64) : counts (maskOf c) (ix1 e) = BitVec.ofNat 32 (upto c 4096 e) := by
  unfold counts
  rw [hostWords_col _ _ _ _ reduces_col]
  show Finset.fold IntOp.addi 0#32 (fun t : Fin 4096 => if c t = e then 1#32 else 0#32) Finset.univ = _
  rw [fold_count]
  refine congrArg (BitVec.ofNat 32) ?_
  unfold upto
  exact congrArg Finset.card (Finset.filter_congr fun t _ => ⟨fun q => ⟨t.isLt, q⟩, fun q => q.2⟩)

theorem ofBits_4096 : Ideal.ofBits .f32 0x45800000#32 = ((4096 : ℝ) : EReal) := by
  simp [Ideal.ofBits, Ideal.ieee]; rw [← EReal.coe_mul]; norm_num

theorem ofBits_64 : Ideal.ofBits .f32 0x42800000#32 = ((64 : ℝ) : EReal) := by
  simp [Ideal.ofBits, Ideal.ieee]; rw [← EReal.coe_mul]; norm_num

theorem div_4096 (y : EReal) : Ideal.div y ((4096 : ℝ) : EReal) = y * ((1 / 4096 : ℝ) : EReal) := by
  unfold Ideal.div
  rw [if_neg (by rw [EReal.coe_eq_zero]; norm_num), ← EReal.coe_inv]
  norm_num

theorem mean_at (a : FVec Ideal S4096x64 .f32) (e : Fin 64) :
    mean a (ix1 e) = (∑ t : Fin 4096, a (ix2 t e)) * ((1 / 4096 : ℝ) : EReal) := by
  show Ideal.div (Host.reduceAdd a (constant S_ .f32 0x00000000#32) reducesTo_S4096x64_S64_d0 h_S_ (ix1 e)) (Ideal.ofBits .f32 0x45800000#32) = _
  rw [hostSum_col a _ _ _ reduces_col Ideal.ofBits_zero_f32, ofBits_4096, div_4096]

theorem count_at (c : Fin 4096 → Fin 64) (e : Fin 64) :
    (∑ t : Fin 4096, (sitofp .f32 (maskOf c) : FVec Ideal S4096x64 .f32) (ix2 t e)) = ((upto c 4096 e : ℝ) : EReal) := by
  have h : ∀ t : Fin 4096, (sitofp .f32 (maskOf c) : FVec Ideal S4096x64 .f32) (ix2 t e) = if c t = e then (1 : EReal) else 0 := by
    intro t
    show (((if c t = e then 1#32 else 0#32 : BitVec 32).toInt : ℝ) : EReal) = _
    by_cases q : c t = e
    · rw [if_pos q, if_pos q]; simp
    · rw [if_neg q, if_neg q]; simp
  rw [Finset.sum_congr rfl fun t _ => h t, sum_count]
  unfold upto
  exact congrArg (fun n : ℕ => ((n : ℝ) : EReal))
    (congrArg Finset.card (Finset.filter_congr fun t _ => ⟨fun q => ⟨t.isLt, q⟩, fun q => q.2⟩))

/-- The reference's balance loss. -/
theorem loss_at (g : FVec Ideal S4096x64 .f32) (c : Fin 4096 → Fin 64) (j : S_.Idx) :
    loss g (maskOf c) j
      = (∑ e, ((upto c 4096 e : ℝ) : EReal) * ∑ t : Fin 4096, g (ix2 t e)) * ((1 / 262144 : ℝ) : EReal) := by
  rw [← loss_eq]
  show Ideal.hostReduceAdd reducesTo_S64_S_d0 _ (Ideal.ofBits .f32 0x00000000#32) j * Ideal.ofBits .f32 0x42800000#32 = _
  rw [ofBits_64, Ideal.ofBits_zero_f32, Ideal.hostReduceAdd_total _ (fun b => b.elim0), zero_add]
  refine congrArg (· * _) ?_
  refine (Fintype.sum_equiv (⟨fun i => i 0, fun e => ix1 e, fun i => (eq_ix1 i).symm, fun e => rfl⟩ : S64.Idx ≃ Fin 64) _ _ fun i => ?_)
  obtain ⟨e, rfl⟩ : ∃ e, i = ix1 e := ⟨i 0, eq_ix1 i⟩
  show mean g (ix1 e) * mean (sitofp .f32 (maskOf c)) (ix1 e) = _
  rw [mean_at, mean_at, count_at]
  rfl

end Cert.ReferenceIdeal.Run

end
-- ==== Proof.Picking.lean ====
/-
  A stable sort by a key of two values: the places with the greater value come first, in their order. So the place of
  such an element in the sort is the number of such elements before it.
-/
module

public import Idealize.ShloMosaic.Lib.SortFacts
public import proofs.«01_k».proof.Proof.Model

@[expose] public section

noncomputable section

namespace Cert.MoE

open Idealize.ShloMosaic

/-- `a` comes before `b` exactly when `a` has the greater key and `b` has not. -/
def ahead {ι : Type} (p : ι → Bool) (a b : ι) : Bool := p a && !p b

theorem insert_chosen {ι : Type} (p : ι → Bool) (a : ι) (ha : p a = true) (l : List ι) :
    insertBefore (ahead p) a l = a :: l := by
  cases l with
  | nil => rfl
  | cons b l =>
    unfold insertBefore
    rw [if_neg (by simp [ahead, ha])]

theorem insert_other {ι : Type} (p : ι → Bool) (a : ι) (ha : p a = false) (l r : List ι) (hl : ∀ b ∈ l, p b = true)
    (hr : ∀ b ∈ r, p b = false) : insertBefore (ahead p) a (l ++ r) = l ++ a :: r := by
  induction l with
  | nil =>
    cases r with
    | nil => rfl
    | cons b r =>
      show insertBefore (ahead p) a (b :: r) = _
      unfold insertBefore
      rw [if_neg (by simp [ahead, hr b List.mem_cons_self])]
      rfl
  | cons b l ih =>
    show insertBefore (ahead p) a (b :: (l ++ r)) = _
    unfold insertBefore
    rw [if_pos (by simp [ahead, ha, hl b List.mem_cons_self]), ih fun b hb => hl b (List.mem_cons_of_mem _ hb)]
    rfl

theorem sort_ahead {ι : Type} (p : ι → Bool) (l : List ι) :
    stableSort (ahead p) l = l.filter p ++ l.filter (fun a => !p a) := by
  induction l with
  | nil => rfl
  | cons a l ih =>
    show insertBefore (ahead p) a (stableSort (ahead p) l) = _
    rw [ih]
    cases ha : p a
    · rw [insert_other p a ha _ _ (fun b hb => (List.mem_filter.1 hb).2) (fun b hb => by simpa using (List.mem_filter.1 hb).2),
        List.filter_cons_of_neg (by simp [ha]), List.filter_cons_of_pos (by simp [ha])]
    · rw [insert_chosen p a ha, List.filter_cons_of_pos ha, List.filter_cons_of_neg (by simp [ha])]
      rfl

theorem mem_take_finRange {n : ℕ} (k : ℕ) (s : Fin n) : s ∈ (List.finRange n).take k ↔ s.val < k := by
  rw [List.mem_take_iff_getElem]
  constructor
  · rintro ⟨i, hi, rfl⟩
    have := lt_of_lt_of_le hi (min_le_left _ _)
    simpa using this
  · intro h
    exact ⟨s.val, by simp [h], by simp⟩

/-- The number of chosen elements before an element. -/
theorem length_before {n : ℕ} (p : Fin n → Bool) (t : Fin n) :
    (((List.finRange n).take t.val).filter p).length = (Finset.univ.filter fun s : Fin n => s.val < t.val ∧ p s = true).card := by
  have hn : (((List.finRange n).take t.val).filter p).Nodup :=
    ((List.nodup_finRange n).sublist (List.take_sublist _ _)).filter _
  rw [← List.toFinset_card_of_nodup hn]
  refine congrArg Finset.card (Finset.ext fun s => ?_)
  rw [List.mem_toFinset, List.mem_filter, mem_take_finRange, Finset.mem_filter]
  exact ⟨fun q => ⟨Finset.mem_univ _, q⟩, fun q => q.2⟩

/-- The sort's element at that place is the element. -/
theorem sortedFrom_ahead {n : ℕ} (p : Fin n → Bool) (t : Fin n) (ht : p t = true)
    (h : (Finset.univ.filter fun s : Fin n => s.val < t.val ∧ p s = true).card < n) :
    sortedFrom (ahead p) ⟨(Finset.univ.filter fun s : Fin n => s.val < t.val ∧ p s = true).card, h⟩ = t := by
  have hsplit : sortPositions n (ahead p) = ((List.finRange n).take t.val).filter p
      ++ t :: (((List.finRange n).drop (t.val + 1)).filter p ++ (List.finRange n).filter (fun a => !p a)) := by
    unfold sortPositions
    rw [sort_ahead]
    have e : (List.finRange n).filter p
        = ((List.finRange n).take t.val).filter p ++ t :: ((List.finRange n).drop (t.val + 1)).filter p := by
      conv_lhs => rw [← List.take_append_drop t.val (List.finRange n)]
      rw [List.filter_append, List.drop_eq_getElem_cons (by simp), List.getElem_finRange]
      rw [List.filter_cons_of_pos (by simpa using ht)]
      rfl
    rw [e, List.append_assoc]
    rfl
  unfold sortedFrom
  rw [List.get_eq_getElem]
  simp only [hsplit, Fin.val_cast]
  rw [List.getElem_append_right (by rw [length_before])]
  simp only [length_before, Nat.sub_self, List.getElem_cons_zero]

end Cert.MoE

end
-- ==== Proof.RefKept.lean ====
/-
  The tokens the reference keeps under the capacity, their places, the combine weights and the dispatch mask, in plain
  terms. An expert's column of the mask sorted, its tokens come first in their order, so the first 64 of the sort are
  its first 64 tokens, and a later token of it is not among them.
-/
module

public import proofs.«01_k».proof.Proof.RefGates
public import proofs.«01_k».proof.Proof.Picking
public import Idealize.ShloMosaic.Lib.Routing.OpsSet
public import Idealize.ShloMosaic.Lib.Routing.OpsPair

@[expose] public section

set_option maxRecDepth 8192

noncomputable section

namespace Cert.ReferenceIdeal.Run

open Cert.ReferenceIdeal Cert.ReferenceIdeal.Gen Cert.MoE Idealize.ShloMosaic Idealize.ShloMosaic.ValueIdx

variable (c : Fin 4096 → Fin 64)

/-! ## The kept tokens -/

/-- The token of rank `r` in an expert's sorted column. -/
def ranked (e r : Fin 64) : Fin 4096 := sortedFrom (ahead fun t => decide (c t = e)) ⟨r.val, by have := r.isLt; omega⟩

theorem maskOf_at (t : Fin 4096) (e : Fin 64) : maskOf c (ix2 t e) = if c t = e then 1#32 else 0#32 := rfl

theorem greater_eq (p q : Prop) [Decidable p] [Decidable q] :
    (IntOp.cmpi .sgt (if p then 1#32 else 0#32) (if q then 1#32 else 0#32) == 1#1) = (decide p && !decide q) := by
  by_cases h1 : p <;> by_cases h2 : q <;> simp [h1, h2] <;> decide

/-- The place in a row that its sort takes an entry from, as the top entries give it. -/
theorem topK_at {a n m : ℕ} (gt : BitVec 32 → BitVec 32 → BitVec 1) (x : IVec (tab a n) 32)
    (h : (tab a n).Slices (fun _ => 0) (tab a m)) (hm : m ≤ n) (e : Fin a) (r : Fin m) :
    (Host.topK (tab a m) 1 gt x h).2 (ix2 e r)
      = BitVec.ofNat 32 (sortedFrom (fun k k' : Fin n => gt (x (ix2 e k)) (x (ix2 e k')) == 1#1) (r.castLE hm)).val := by
  have ha : ∀ (j : (tab a n).Idx) (k : Fin n), j.along (1 : Fin 2) k = ix2 (j 0) k := by
    intro j k
    funext b
    match b with
    | ⟨0, _⟩ => rfl
    | ⟨1, _⟩ => rfl
  have key : ∀ j : (tab a n).Idx, j = ix2 e (r.castLE hm) →
      (Host.sort2 (tab a n) 1 (fun l r : BitVec 32 × BitVec 32 => gt l.1 r.1) x (iotaInDim (tab a n) 32 1)).2 j
        = BitVec.ofNat 32 (sortedFrom (fun k k' : Fin n => gt (x (ix2 e k)) (x (ix2 e k')) == 1#1) (r.castLE hm)).val := by
    rintro j rfl
    unfold Host.sort2
    rw [dif_pos (show 1 < (tab a n).rank from Nat.lt_succ_self 1)]
    have hb : (fun k k' : Fin n => gt (x ((ix2 e (r.castLE hm) : (tab a n).Idx).along (1 : Fin 2) k)) (x ((ix2 e (r.castLE hm) : (tab a n).Idx).along (1 : Fin 2) k')) == 1#1)
        = fun k k' : Fin n => gt (x (ix2 e k)) (x (ix2 e k')) == 1#1 := by
      funext k k'
      rw [ha, ha]; rfl
    rw [← hb]
    rfl
  refine key (fun b => ⟨0 + ((ix2 e r : (tab a m).Idx) (b.cast h.1.symm)).val, _⟩) (funext fun b => Fin.ext ?_)
  match b with
  | ⟨0, _⟩ => exact Nat.zero_add _
  | ⟨1, _⟩ => exact Nat.zero_add _

theorem kept_at (r e : Fin 64) : kept (maskOf c) (ix2 r e) = BitVec.ofNat 32 (ranked c e r).val := by
  unfold kept
  rw [transpose_ix2_apply]
  have hx : ∀ t : Fin 4096, transpose S64x4096 [1, 0] (maskOf c) transposes_S4096x64_S64x4096_1_0 (ix2 e t)
      = if c t = e then 1#32 else 0#32 := fun t => (transpose_ix2_apply (maskOf c) _ e t).trans (maskOf_at c t e)
  generalize transpose S64x4096 [1, 0] (maskOf c) transposes_S4096x64_S64x4096_1_0 = x at hx
  have hb : (fun k k' : Fin 4096 => IntOp.cmpi .sgt (x (ix2 e k)) (x (ix2 e k')) == 1#1) = ahead fun t => decide (c t = e) := by
    funext k k'
    rw [hx, hx]
    exact greater_eq _ _
  have h := topK_at (IntOp.cmpi .sgt) x sliceFits_S64x4096_S64x64 (by decide : 64 ≤ 4096) e r
  rw [hb] at h
  exact h

/-- A token of the expert has its place as its rank, -/
theorem ranked_place (t : Fin 4096) (h : place c t < 64) : ranked c (c t) ⟨place c t, h⟩ = t := by
  have hp : (Finset.univ.filter fun s : Fin 4096 => s.val < t.val ∧ decide (c s = c t) = true).card = place c t := by
    unfold place upto
    exact congrArg Finset.card (Finset.filter_congr fun s _ => by rw [decide_eq_true_iff])
  have := sortedFrom_ahead (fun s => decide (c s = c t)) t (by simp) (by rw [hp]; omega)
  unfold ranked
  refine Eq.trans ?_ this
  exact congrArg _ (Fin.ext hp.symm)

/-- so it is among the first 64 exactly when its place is below 64. -/
theorem exists_ranked (t : Fin 4096) : (∃ r, ranked c (c t) r = t) ↔ place c t < 64 := by
  constructor
  · rintro ⟨r, hr⟩
    by_cases hlt : place c t < 4096
    · have hp : (Finset.univ.filter fun s : Fin 4096 => s.val < t.val ∧ decide (c s = c t) = true).card = place c t := by
        unfold place upto
        exact congrArg Finset.card (Finset.filter_congr fun s _ => by rw [decide_eq_true_iff])
      have h2 := sortedFrom_ahead (fun s => decide (c s = c t)) t (by simp) (by rw [hp]; omega)
      have h3 := sortedFrom_injective _ (hr.trans h2.symm)
      rw [← hp]
      exact lt_of_eq_of_lt (Fin.ext_iff.1 h3).symm r.isLt
    · exfalso
      have h1 := upto_succ c t (c t)
      rw [if_pos rfl] at h1
      have h2 := upto_le c (t.val + 1) (c t)
      unfold place at hlt
      omega
  · exact fun h => ⟨_, ranked_place c t h⟩

/-! ## The kept mask -/

theorem nonneg_word (n : ℕ) (h : n < 4096) : IntOp.cmpi .slt (BitVec.ofNat 32 n) 0#32 = 0#1 := by
  have := WordCmp.cmpi_slt_ofNat (w := 32) (a := n) (b := 0) (by omega) (by omega)
  rw [show (0#32 : BitVec 32) = BitVec.ofNat 32 0 from rfl, this]
  rfl

theorem rows_at (k : IVec S64x64 32) (r e : Fin 64) (n : ℕ) (hn : n < 4096) (h : k (ix2 r e) = BitVec.ofNat 32 n) :
    rows k (ix2 r e) = BitVec.ofNat 32 n := by
  show Scalar.select (IntOp.cmpi .slt (k (ix2 r e)) 0#32) (IntOp.addi (k (ix2 r e)) 4096#32) (k (ix2 r e)) = _
  rw [h, nonneg_word n hn]
  rfl

theorem columns_at (r e : Fin 64) : columns (ix2 r e) = BitVec.ofNat 32 e.val := by
  unfold columns
  refine (broadcastInDim_apply _ bcast_S1x64_S64x64_0_1 _ (ix2 r e) (ix2 (0 : Fin 1) e) fun a => ?_).trans ?_
  · match a with
    | ⟨0, _⟩ => rfl
    | ⟨1, _⟩ => rfl
  · have hrow : row64 (ix2 (0 : Fin 1) e) = BitVec.ofNat 32 e.val := by
      unfold row64
      refine (broadcastInDim_apply _ bcast_S64_S1x64_1 _ (ix2 (0 : Fin 1) e) (ix1 e) fun a => ?_).trans rfl
      match a with
      | ⟨0, _⟩ => rfl
    show Scalar.select (IntOp.cmpi .slt (row64 (ix2 (0 : Fin 1) e)) 0#32) _ (row64 (ix2 (0 : Fin 1) e)) = _
    rw [hrow, nonneg_word _ (by have := e.isLt; omega)]
    rfl

theorem places_row (k : IVec S64x64 32) (r e : Fin 64) : places k (ix3 r e 0) = rows k (ix2 r e) := by
  unfold places pairUp
  refine (concatenate_pair_apply_left 2 _ _ concatenates_S64x64x1_S64x64x1_S64x64x2_d2 (ix3 r e (0 : Fin 2)) rfl (ix3 r e (0 : Fin 1)) fun b => ?_).trans ?_
  · match b with
    | ⟨0, _⟩ => rfl
    | ⟨1, _⟩ => rfl
    | ⟨2, _⟩ => rfl
  · refine broadcastInDim_apply _ bcast_S64x64_S64x64x1_0_1 _ (ix3 r e (0 : Fin 1)) (ix2 r e) fun a => ?_
    match a with
    | ⟨0, _⟩ => rfl
    | ⟨1, _⟩ => rfl

theorem places_col (k : IVec S64x64 32) (r e : Fin 64) : places k (ix3 r e 1) = columns (ix2 r e) := by
  unfold places pairUp
  refine (concatenate_pair_apply_right 2 _ _ concatenates_S64x64x1_S64x64x1_S64x64x2_d2 (ix3 r e (1 : Fin 2)) rfl rfl (ix3 r e (0 : Fin 1)) (fun b hb => ?_) rfl).trans ?_
  · match b, hb with
    | ⟨0, _⟩, _ => rfl
    | ⟨1, _⟩, _ => rfl
    | ⟨2, _⟩, hb => exact absurd rfl hb
  · refine broadcastInDim_apply _ bcast_S64x64_S64x64x1_0_1 _ (ix3 r e (0 : Fin 1)) (ix2 r e) fun a => ?_
    match a with
    | ⟨0, _⟩ => rfl
    | ⟨1, _⟩ => rfl

theorem lands_iff (r e' : Fin 64) (t : Fin 4096) (e : Fin 64) :
    scatter_S4096x64_S64x64x2_S64x64_n_01_01_2.resultIdx? (ix2 r e') (places (kept (maskOf c))) = some (ix2 t e)
      ↔ ranked c e' r = t ∧ e' = e := by
  rw [Routing.scatter_lands2 scatter_S4096x64_S64x64x2_S64x64_n_01_01_2 rfl rfl rfl, places_row, places_col,
    rows_at _ r e' (ranked c e' r).val (ranked c e' r).isLt (kept_at c r e'), columns_at,
    StableHlo.Predicate.toInt_ofNat_small _ (by have := (ranked c e' r).isLt; omega),
    StableHlo.Predicate.toInt_ofNat_small _ (by have := e'.isLt; omega), Nat.cast_inj, Nat.cast_inj, Fin.ext_iff, Fin.ext_iff]

theorem limited_at (t : Fin 4096) (e : Fin 64) :
    limited (maskOf c) (ix2 t e) = if c t = e ∧ place c t < 64 then 1#32 else 0#32 := by
  show IntOp.muli (maskOf c (ix2 t e)) (keptMask (maskOf c) (ix2 t e)) = _
  rw [maskOf_at]
  by_cases he : c t = e
  · subst he
    rw [if_pos rfl]
    by_cases hp : place c t < 64
    · rw [if_pos ⟨rfl, hp⟩]
      have : keptMask (maskOf c) (ix2 t (c t)) = 1#32 := by
        unfold keptMask
        exact Routing.scatter_set_hit _ _ _ _ _ _ (fun k _ => rfl) (ix2 ⟨place c t, hp⟩ (c t))
          ((lands_iff c _ _ t (c t)).2 ⟨ranked_place c t hp, rfl⟩)
      rw [this]; rfl
    · rw [if_neg fun q => hp q.2]
      have : keptMask (maskOf c) (ix2 t (c t)) = 0#32 := by
        unfold keptMask
        refine Routing.scatter_set_miss _ _ _ _ _ fun k q => hp ?_
        rw [eq_ix2 k] at q
        obtain ⟨q1, q2⟩ := (lands_iff c _ _ t (c t)).1 q
        exact (exists_ranked c t).1 ⟨_, q2 ▸ q1⟩
      rw [this]; rfl
  · rw [if_neg he, if_neg fun q => he q.1]
    show 0#32 * _ = 0#32
    exact BitVec.zero_mul

/-! ## The places -/

theorem running_at (k : IVec S4096x64 32) (P : Fin 4096 → Fin 64 → Prop) [∀ s e, Decidable (P s e)]
    (hk : ∀ s e, k (ix2 s e) = if P s e then 1#32 else 0#32) (t : Fin 4096) (e : Fin 64) :
    running k (ix2 t e) = BitVec.ofNat 32 (Finset.univ.filter fun s : Fin 4096 => s.val ≤ t.val ∧ P s e).card := by
  classical
  let W : Shape := ⟨2, ![4096, 1]⟩
  let Q : W.Idx → Prop := fun i => ∃ s : Fin 4096, s.val + 4095 = t.val + (i 0).val ∧ P s e
  let f : W.Idx → BitVec 32 := fun i => if Q i then 1#32 else 0#32
  have h1 : running k (ix2 t e) = (List.finRange W.numel).foldl (fun r n => IntOp.addi r (f (W.rowMajor.symm n))) 0#32 := by
    unfold running Host.reduceWindow
    dsimp only
    refine List.foldl_ext _ _ _ fun r n _ => congrArg (IntOp.addi r) ?_
    obtain ⟨i, hi⟩ : ∃ i : W.Idx, W.rowMajor.symm n = i := ⟨_, rfl⟩
    have hi1 : (i 1).val = 0 := by have : (i 1).val < 1 := (i 1).isLt; omega
    rw [show f (W.rowMajor.symm n) = f i from congrArg f hi]
    split
    · next hin =>
      have ha := hin 0
      have hb := hin 1
      have e0 : (W.rowMajor.symm n 0).val = (i 0).val := by rw [hi]
      have e1 : (W.rowMajor.symm n 1).val = 0 := by rw [hi]; exact hi1
      have ha' : 4095 ≤ t.val * 1 + (W.rowMajor.symm n 0).val ∧ t.val * 1 + (W.rowMajor.symm n 0).val - 4095 < 4096 := ha
      rw [e0] at ha'
      let s : Fin 4096 := ⟨t.val + (i 0).val - 4095, by omega⟩
      refine (at2 k _ s e ?_ ?_).trans ((hk s e).trans ?_)
      · show t.val * 1 + (W.rowMajor.symm n 0).val - 4095 = t.val + (i 0).val - 4095
        rw [e0, Nat.mul_one]
      · show e.val * 1 + (W.rowMajor.symm n 1).val - 0 = e.val
        rw [e1]; omega
      · have hs : Q i ↔ P s e := by
          constructor
          · rintro ⟨s', h, h'⟩
            have : s' = s := Fin.ext (by show s'.val = t.val + (i 0).val - 4095; omega)
            exact this ▸ h'
          · exact fun h => ⟨s, by show t.val + (i 0).val - 4095 + 4095 = _; omega, h⟩
        show (if P s e then 1#32 else 0#32) = if Q i then 1#32 else 0#32
        by_cases q : P s e
        · rw [if_pos q, if_pos (hs.2 q)]
        · rw [if_neg q, if_neg fun r => q (hs.1 r)]
    · next hin =>
      have hQ : ¬ Q i := by
        rintro ⟨s, h, -⟩
        refine hin fun a => ?_
        have hs := s.isLt
        match a with
        | ⟨0, _⟩ =>
          show 4095 ≤ t.val * 1 + (W.rowMajor.symm n 0).val ∧ t.val * 1 + (W.rowMajor.symm n 0).val - 4095 < 4096
          rw [hi]; omega
        | ⟨1, _⟩ =>
          show 0 ≤ e.val * 1 + (W.rowMajor.symm n 1).val ∧ e.val * 1 + (W.rowMajor.symm n 1).val - 0 < 64
          rw [hi]; have := e.isLt; omega
      show 0#32 = if Q i then 1#32 else 0#32
      rw [if_neg hQ]
  have h2 := Shape.foldl_filter_rowMajor_eq_fold (s := W) (t := ⟨0, ![]⟩) (fun _ => ix0) IntOp.addi 0#32 f ix0
  rw [List.filter_eq_self.2 (fun n _ => decide_eq_true rfl), Finset.filter_true_of_mem fun i _ => rfl] at h2
  rw [h1, h2]
  refine (fold_count Q Finset.univ).trans (congrArg (BitVec.ofNat 32) ?_)
  refine Finset.card_bij (fun i _ => (⟨t.val + (i 0).val - 4095, by have := (i 0).isLt; have h : (i 0).val < 4096 := this; have := t.isLt; omega⟩ : Fin 4096)) ?_ ?_ ?_
  · intro i hi
    obtain ⟨s, h, hP⟩ := (Finset.mem_filter.1 hi).2
    have hlt : (i 0).val < 4096 := (i 0).isLt
    have : s = ⟨t.val + (i 0).val - 4095, by have := t.isLt; omega⟩ := Fin.ext (by show s.val = t.val + (i 0).val - 4095; omega)
    refine Finset.mem_filter.2 ⟨Finset.mem_univ _, ?_, this ▸ hP⟩
    show t.val + (i 0).val - 4095 ≤ t.val
    omega
  · intro i hi j hj hij
    obtain ⟨s, h, -⟩ := (Finset.mem_filter.1 hi).2
    obtain ⟨s', h', -⟩ := (Finset.mem_filter.1 hj).2
    have := congrArg Fin.val hij
    dsimp only at this
    rw [eq_ix2 i, eq_ix2 j]
    have e0 : i 0 = j 0 := Fin.ext (by omega)
    have e1 : i 1 = j 1 := Fin.ext (by have h1 : (i 1).val < 1 := (i 1).isLt; have h2 : (j 1).val < 1 := (j 1).isLt; omega)
    rw [e0, e1]
  · intro s hs
    obtain ⟨hle, hP⟩ := (Finset.mem_filter.1 hs).2
    have := t.isLt
    refine ⟨ix2 (⟨s.val + 4095 - t.val, by omega⟩ : Fin 4096) (0 : Fin 1), Finset.mem_filter.2 ⟨Finset.mem_univ _, s, ?_, hP⟩, Fin.ext ?_⟩
    · show s.val + 4095 = t.val + (s.val + 4095 - t.val); omega
    · show t.val + (s.val + 4095 - t.val) - 4095 = s.val; omega

/-- At a kept token the running count of its expert's kept tokens is its place and one. -/
theorem running_kept (t : Fin 4096) (h : place c t < 64) :
    running (limited (maskOf c)) (ix2 t (c t)) = BitVec.ofNat 32 (place c t + 1) := by
  rw [running_at _ (fun s e => c s = e ∧ place c s < 64) (limited_at c)]
  refine congrArg (BitVec.ofNat 32) ?_
  have h1 := upto_succ c t (c t)
  rw [if_pos rfl] at h1
  refine Eq.trans (congrArg Finset.card (Finset.filter_congr fun s _ => ?_)) h1
  constructor
  · rintro ⟨h2, h3, -⟩
    exact ⟨by omega, h3⟩
  · rintro ⟨h2, h3⟩
    refine ⟨by omega, h3, ?_⟩
    by_cases hs : s = t
    · exact hs ▸ h
    · have : s < t := lt_of_le_of_ne (by show s.val ≤ t.val; omega) hs
      exact (place_lt c this h3).trans h

theorem location_at (t : Fin 4096) :
    location (limited (maskOf c)) (ix1 t) = if place c t < 64 then BitVec.ofNat 32 (place c t) else 0#32 := by
  unfold location
  rw [hostWords_row _ _ _ _ reduces_row]
  refine Eq.trans (congrArg (fun f => Finset.fold IntOp.addi 0#32 f (Finset.univ : Finset (Fin 64)))
    (funext fun e => ?_)) (fold_only (c t) _)
  show IntOp.muli (IntOp.subi (running (limited (maskOf c)) (ix2 t e)) 1#32) (limited (maskOf c) (ix2 t e)) = _
  rw [limited_at]
  by_cases he : e = c t
  · subst he
    rw [if_pos rfl]
    by_cases hp : place c t < 64
    · rw [if_pos ⟨rfl, hp⟩, if_pos hp, running_kept c t hp]
      show (BitVec.ofNat 32 (place c t + 1) - 1#32) * 1#32 = _
      rw [BitVec.mul_one, BitVec.ofNat_add]
      exact BitVec.add_sub_cancel _ _
    · rw [if_neg fun q => hp q.2, if_neg hp]
      exact BitVec.mul_zero
  · rw [if_neg he, if_neg fun q => he q.1.symm]
    exact BitVec.mul_zero

/-! ## The combine weights -/

/-- The reference's combine weight of a token at an expert's slot. -/
theorem combine_at (g : FVec Ideal S4096x64 .f32) (t : Fin 4096) (e s : Fin 64) :
    combine g (limited (maskOf c)) (ix3 t e s) = if c t = e ∧ place c t = s.val then g (ix2 t (c t)) else 0 := by
  unfold combine
  have hl : (broadcastInDim S4096x64x64 ![0, 1, 2] bcast_S4096x64x1_S4096x64x64_0_1_2
      (broadcastInDim S4096x64x1 ![0, 1] bcast_S4096x64_S4096x64x1_0_1 (mulf g (sitofp .f32 (limited (maskOf c))))) : FVec Ideal S4096x64x64 .f32) (ix3 t e s)
      = g (ix2 t e) * (((limited (maskOf c) (ix2 t e)).toInt : ℝ) : EReal) := by
    refine (broadcastInDim_apply _ bcast_S4096x64x1_S4096x64x64_0_1_2 _ (ix3 t e s) (ix3 t e (0 : Fin 1)) fun a => ?_).trans
      ((broadcastInDim_apply _ bcast_S4096x64_S4096x64x1_0_1 _ (ix3 t e (0 : Fin 1)) (ix2 t e) fun a => ?_).trans rfl)
    · match a with
      | ⟨0, _⟩ => rfl
      | ⟨1, _⟩ => rfl
      | ⟨2, _⟩ => rfl
    · match a with
      | ⟨0, _⟩ => rfl
      | ⟨1, _⟩ => rfl
  have hr : (broadcastInDim S4096x64x64 ![0, 1, 2] bcast_S4096x1x64_S4096x64x64_0_1_2
      (broadcastInDim S4096x1x64 ![0, 2] bcast_S4096x64_S4096x1x64_0_2 (uitofp .f32 (cmpi .eq (spread (location (limited (maskOf c)))) numbers))) : FVec Ideal S4096x64x64 .f32) (ix3 t e s)
      = (((IntOp.cmpi .eq (location (limited (maskOf c)) (ix1 t)) (BitVec.ofNat 32 s.val)).toNat : ℝ) : EReal) := by
    refine (broadcastInDim_apply _ bcast_S4096x1x64_S4096x64x64_0_1_2 _ (ix3 t e s) (ix3 t (0 : Fin 1) s) fun a => ?_).trans
      ((broadcastInDim_apply _ bcast_S4096x64_S4096x1x64_0_2 _ (ix3 t (0 : Fin 1) s) (ix2 t s) fun a => ?_).trans ?_)
    · match a with
      | ⟨0, _⟩ => rfl
      | ⟨1, _⟩ => rfl
      | ⟨2, _⟩ => rfl
    · match a with
      | ⟨0, _⟩ => rfl
      | ⟨1, _⟩ => rfl
    · show (((IntOp.cmpi .eq (spread (location (limited (maskOf c))) (ix2 t s)) (numbers (ix2 t s))).toNat : ℝ) : EReal) = _
      rw [spread_at, numbers_at]
  refine (congrArg₂ (fun a b : EReal => a * b) hl hr).trans ?_
  rw [limited_at, location_at]
  by_cases he : c t = e
  · subst he
    by_cases hp : place c t < 64
    · rw [if_pos ⟨rfl, hp⟩, if_pos hp, WordCmp.cmpi_eq_ofNat (by omega) (by have := s.isLt; omega)]
      by_cases hs : place c t = s.val
      · rw [if_pos ⟨rfl, hs⟩]; simp [hs]
      · rw [if_neg fun q => hs q.2]; simp [hs]
    · have hs : ¬ place c t = s.val := by have := s.isLt; omega
      rw [if_neg (fun q => hp q.2 : ¬ (c t = c t ∧ place c t < 64)), if_neg (fun q => hs q.2 : ¬ (c t = c t ∧ place c t = s.val))]; simp
  · rw [if_neg (fun q => he q.1 : ¬ (c t = e ∧ place c t < 64)), if_neg (fun q => he q.1 : ¬ (c t = e ∧ place c t = s.val))]; simp

/-- The reference's mask: where the weight is not zero. -/
theorem dispatched_at (a : FVec Ideal S4096x64x64 .f32) (i : S4096x64x64.Idx) :
    dispatched a i = if a i = 0 then 0#1 else 1#1 := by
  show BitVec.ofBool (decide (a i ≠ Ideal.ofBits .f32 0x00000000#32)) = _
  rw [Ideal.ofBits_zero_f32]
  by_cases h : a i = 0
  · rw [if_pos h]; simp [h]
  · rw [if_neg h]; simp [h]

end Cert.ReferenceIdeal.Run

end
-- ==== Proof.Equal.lean ====
/-
  The two programs' results are the same, at every index.
-/
module

public import proofs.«01_k».proof.Defs
public import proofs.«01_k».proof.Proof.KernelValues
public import proofs.«01_k».proof.Proof.RefKept

@[expose] public section

set_option maxRecDepth 16384

noncomputable section

namespace Cert.Equal

open Cert.MoE
open Idealize.ShloMosaic.ValueIdx
open Idealize.ShloMosaic hiding ix1 ix2 ix3
open Idealize.ShloMosaic.TcCoe

variable (m : (ℓ : Loc KernelIdeal.nD KernelIdeal.τ KernelIdeal.sig) → Buf (Elt Ideal) ℓ) (c : Dev KernelIdeal.nD)

/-- The kernel's arguments as launched. -/
abbrev argX : FVec Ideal ReferenceIdeal.S4096x4096 .f32 := m ((c.tc : Thread KernelIdeal.nD KernelIdeal.τ).loc KernelIdeal.main_arg0)
abbrev argW : FVec Ideal ReferenceIdeal.S64x4096 .f32 := m ((c.tc : Thread KernelIdeal.nD KernelIdeal.τ).loc KernelIdeal.main_arg1)

/-- The two programs' gates are one function of the arguments, -/
theorem gate_eq : gate (KernelIdeal.Whole.xs m c) (KernelIdeal.Whole.ws m c)
    = gate (ReferenceIdeal.Run.tok (argX m c)) (ReferenceIdeal.Run.wt (argW m c)) := rfl

/-- and so are the experts. -/
theorem expert_eq : KernelIdeal.Whole.expert m c = ReferenceIdeal.Run.expert (argX m c) (argW m c) := rfl

/-- The gate at a token's expert is the largest. -/
theorem gates_top (t : Fin 4096) : ReferenceIdeal.Run.gates (argX m c) (argW m c) (ix2 t (KernelIdeal.Whole.expert m c t))
    = top (gate (KernelIdeal.Whole.xs m c) (KernelIdeal.Whole.ws m c) t) :=
  (ReferenceIdeal.Run.gates_at _ _ t _).trans (first_isFirst (gate (KernelIdeal.Whole.xs m c) (KernelIdeal.Whole.ws m c) t)).1

/-- The balance losses are equal. -/
theorem aux : ReferenceIdeal.Run.loss (ReferenceIdeal.Run.gates (argX m c) (argW m c)) (ReferenceIdeal.Run.theMask (argX m c) (argW m c))
    = (KernelIdeal.Whole.ending m c (Proc.devRef .tc KernelIdeal.main_v0_0) : FVec Ideal KernelIdeal.S_ .f32) := by
  funext j
  rw [ReferenceIdeal.Run.theMask_eq, ReferenceIdeal.Run.loss_at]
  refine Eq.trans ?_ (KernelIdeal.Whole.aux_at m c j).symm
  simp only [ReferenceIdeal.Run.gates_at]
  rfl

/-- The counts are equal. -/
theorem counts : ReferenceIdeal.Run.counts (ReferenceIdeal.Run.theMask (argX m c) (argW m c))
    = (KernelIdeal.Whole.ending m c (Proc.devRef .tc KernelIdeal.main_v0_3) : IVec KernelIdeal.S64 32) := by
  funext j
  obtain ⟨e, rfl⟩ : ∃ e : Fin 64, j = ix1 e := ⟨j 0, ValueIdx.eq_ix1 j⟩
  rw [ReferenceIdeal.Run.theMask_eq, ReferenceIdeal.Run.counts_at]
  exact (KernelIdeal.Whole.counts_at m c e).symm

/-- The reference's weights at an index, over the kernel's experts. -/
theorem weight (t : Fin 4096) (e s : Fin 64) :
    ReferenceIdeal.Run.combine (ReferenceIdeal.Run.gates (argX m c) (argW m c)) (ReferenceIdeal.Run.limited (ReferenceIdeal.Run.theMask (argX m c) (argW m c))) (ix3 t e s)
      = if KernelIdeal.Whole.expert m c t = e ∧ place (KernelIdeal.Whole.expert m c) t = s.val
        then top (gate (KernelIdeal.Whole.xs m c) (KernelIdeal.Whole.ws m c) t) else 0 := by
  rw [ReferenceIdeal.Run.theMask_eq]
  refine (ReferenceIdeal.Run.combine_at (KernelIdeal.Whole.expert m c) _ t e s).trans ?_
  rw [gates_top]

/-- The combine weights are equal. -/
theorem combine :
    ReferenceIdeal.Run.combine (ReferenceIdeal.Run.gates (argX m c) (argW m c)) (ReferenceIdeal.Run.limited (ReferenceIdeal.Run.theMask (argX m c) (argW m c)))
      = (KernelIdeal.Whole.ending m c (Proc.devRef .tc KernelIdeal.main_v0_1) : FVec Ideal KernelIdeal.S4096x64x64 .f32) := by
  funext j
  obtain ⟨t, e, s, rfl⟩ : ∃ (t : Fin 4096) (e s : Fin 64), j = ix3 t e s := ⟨j 0, j 1, j 2, ValueIdx.eq_ix3 j⟩
  exact (weight m c t e s).trans (KernelIdeal.Whole.combine_at m c t e s).symm

/-- The masks are equal: a weight at a filled slot is never zero. -/
theorem mask :
    ReferenceIdeal.Run.dispatched (ReferenceIdeal.Run.combine (ReferenceIdeal.Run.gates (argX m c) (argW m c))
        (ReferenceIdeal.Run.limited (ReferenceIdeal.Run.theMask (argX m c) (argW m c))))
      = (KernelIdeal.Whole.ending m c (Proc.devRef .tc KernelIdeal.main_v0_2) : IVec KernelIdeal.S4096x64x64 1) := by
  funext j
  obtain ⟨t, e, s, rfl⟩ : ∃ (t : Fin 4096) (e s : Fin 64), j = ix3 t e s := ⟨j 0, j 1, j 2, ValueIdx.eq_ix3 j⟩
  refine Eq.trans ?_ (KernelIdeal.Whole.mask_at m c t e s).symm
  rw [ReferenceIdeal.Run.dispatched_at, weight]
  by_cases q : KernelIdeal.Whole.expert m c t = e ∧ place (KernelIdeal.Whole.expert m c) t = s.val
  · rw [if_pos q, if_pos q]
    exact if_neg (top_share_ne_zero _)
  · rw [if_neg q, if_neg q, if_pos rfl]

end Cert.Equal

namespace Cert.Proof

open Idealize.ShloMosaic Idealize.ShloMosaic.TcCoe Idealize.SL.Sem

/-- At ideal values the kernel's four results are the reference's. -/
theorem algebraic : algebraic_KernelIdeal_ReferenceIdeal (hKernelIdeal := Cert.KernelIdeal.Gen.facts) (hReferenceIdeal := Cert.ReferenceIdeal.Gen.facts) := by
  intro m g m' g' _ h
  refine ⟨fun c => KernelIdeal.Whole.ending m c (Proc.devRef .tc KernelIdeal.main_v0_0), fun c => KernelIdeal.Whole.ending m c (Proc.devRef .tc KernelIdeal.main_v0_1),
    fun c => KernelIdeal.Whole.ending m c (Proc.devRef .tc KernelIdeal.main_v0_2), fun c => KernelIdeal.Whole.ending m c (Proc.devRef .tc KernelIdeal.main_v0_3), ?_, ?_⟩
  · exact Idealize.ShloMosaic.θ_run_mono (KernelIdeal.Whole.run m g) fun _ k c =>
      ⟨k.1 c KernelIdeal.main_v0_0 rfl, k.1 c KernelIdeal.main_v0_1 rfl, k.1 c KernelIdeal.main_v0_2 rfl, k.1 c KernelIdeal.main_v0_3 rfl,
        (k.1 c KernelIdeal.main_arg0 rfl).trans (KernelIdeal.Whole.ending_arg0 m c), (k.1 c KernelIdeal.main_arg1 rfl).trans (KernelIdeal.Whole.ending_arg1 m c)⟩
  · refine Idealize.ShloMosaic.θ_run_mono (ReferenceIdeal.Run.run m' g') fun _ k c => ?_
    have hx : ReferenceIdeal.Run.argX m' c = Equal.argX m c := (h c).1
    have hw : ReferenceIdeal.Run.argW m' c = Equal.argW m c := (h c).2
    obtain ⟨k0, k1, k2, k3, k4, k5⟩ := k c
    rw [hx, hw] at k0 k1 k2 k3
    exact ⟨k0.trans (Equal.aux m c), k1.trans (Equal.combine m c), k2.trans (Equal.mask m c), k3.trans (Equal.counts m c), k4, k5⟩

end Cert.Proof

end
-- ==== Proof.lean ====
/-
  The certificate: every program runs, leaves its arguments and its counters as they were, the idealized kernel
  is the kernel's own text, and at ideal values it computes the reference's four results.
-/
module

public import proofs.«01_k».proof.Defs
public import proofs.«01_k».proof.Proof.Equal
public import proofs.«01_k».proof.Proof.RefRun

@[expose] public section

noncomputable section

namespace Cert.Proof

theorem claim : Cert.Claim :=
  ⟨Cert.Kernel.Gen.facts, Cert.KernelIdeal.Gen.facts, Cert.ReferenceIdeal.Gen.facts, kernel_frame, kernelIdeal_frame, reference_frame, trivial, algebraic⟩

end Cert.Proof

end
